-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_3)) (v4 : (c : Dev Cert.KernelIdeal.nD) → Buf (Elt Ideal) ((c.tc : Thread Cert.KernelIdeal.nD Cert.KernelIdeal.τ).loc Cert.KernelIdeal.main_v26_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_3) = v3 c
          ∧ r.2.mem ((c.tc : Thread Cert.KernelIdeal.nD Cert.KernelIdeal.τ).loc Cert.KernelIdeal.main_v26_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_v12_2) = v2 c
          ∧ r.2.mem ((c.tc : Thread Cert.ReferenceIdeal.nD Cert.ReferenceIdeal.τ).loc Cert.ReferenceIdeal.main_v12_3) = v3 c
          ∧ r.2.mem ((c.tc : Thread Cert.ReferenceIdeal.nD Cert.ReferenceIdeal.τ).loc Cert.ReferenceIdeal.main_v12_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S176x2048x128 : Shape := ⟨3, ![176, 2048, 128]⟩
abbrev S8x4096x1408 : Shape := ⟨3, ![8, 4096, 1408]⟩
abbrev S1408 : Shape := ⟨1, ![1408]⟩
abbrev S1408x5632 : Shape := ⟨2, ![1408, 5632]⟩
abbrev S5632 : Shape := ⟨1, ![5632]⟩
abbrev S5632x1408 : Shape := ⟨2, ![5632, 1408]⟩
abbrev S1408x1 : Shape := ⟨2, ![1408, 1]⟩
abbrev S1408x128 : Shape := ⟨2, ![1408, 128]⟩
abbrev S1x1408x128 : Shape := ⟨3, ![1, 1408, 128]⟩
abbrev S3x1408x128 : Shape := ⟨3, ![3, 1408, 128]⟩
abbrev S5632x1 : Shape := ⟨2, ![5632, 1]⟩
abbrev S5632x128 : Shape := ⟨2, ![5632, 128]⟩
abbrev S1x5632x128 : Shape := ⟨3, ![1, 5632, 128]⟩
abbrev S2x5632x128 : Shape := ⟨3, ![2, 5632, 128]⟩
abbrev S1x1408 : Shape := ⟨2, ![1, 1408]⟩
abbrev S3x1408 : Shape := ⟨2, ![3, 1408]⟩
abbrev S3x1x1408 : Shape := ⟨3, ![3, 1, 1408]⟩
abbrev S176x2x1024x128 : Shape := ⟨4, ![176, 2, 1024, 128]⟩
abbrev S2x64x256x1408 : Shape := ⟨4, ![2, 64, 256, 1408]⟩
abbrev S2x64x256x44 : Shape := ⟨4, ![2, 64, 256, 44]⟩
abbrev S2x64x256x5632 : Shape := ⟨4, ![2, 64, 256, 5632]⟩
abbrev S2x64x256x176 : Shape := ⟨4, ![2, 64, 256, 176]⟩
abbrev S176x2x16x128 : Shape := ⟨4, ![176, 2, 16, 128]⟩
abbrev S2x1x256x1408 : Shape := ⟨4, ![2, 1, 256, 1408]⟩
abbrev S2x1x256x44 : Shape := ⟨4, ![2, 1, 256, 44]⟩
abbrev S2x1x256x5632 : Shape := ⟨4, ![2, 1, 256, 5632]⟩
abbrev S2x1x256x176 : Shape := ⟨4, ![2, 1, 256, 176]⟩
abbrev S1408x512 : Shape := ⟨2, ![1408, 512]⟩
abbrev S5632x512 : Shape := ⟨2, ![5632, 512]⟩
abbrev S11x4x512 : Shape := ⟨3, ![11, 4, 512]⟩
abbrev S11x16x512 : Shape := ⟨3, ![11, 16, 512]⟩
abbrev S8x512 : Shape := ⟨2, ![8, 512]⟩
abbrev S16x1x8x128 : Shape := ⟨4, ![16, 1, 8, 128]⟩
abbrev S16x8x128 : Shape := ⟨3, ![16, 8, 128]⟩
abbrev S128x128 : Shape := ⟨2, ![128, 128]⟩
abbrev S128x512 : Shape := ⟨2, ![128, 512]⟩
abbrev S1x128x128 : Shape := ⟨3, ![1, 128, 128]⟩
abbrev S16x8x512 : Shape := ⟨3, ![16, 8, 512]⟩
abbrev S512 : Shape := ⟨1, ![512]⟩
abbrev S1x512 : Shape := ⟨2, ![1, 512]⟩
abbrev S4x32x512 : Shape := ⟨3, ![4, 32, 512]⟩
abbrev S4x512 : Shape := ⟨2, ![4, 512]⟩
abbrev S4x1x512 : Shape := ⟨3, ![4, 1, 512]⟩
abbrev S1x4x512 : Shape := ⟨3, ![1, 4, 512]⟩
abbrev S512x128 : Shape := ⟨2, ![512, 128]⟩
abbrev S256x128 : Shape := ⟨2, ![256, 128]⟩
abbrev S1x1x256x128 : Shape := ⟨4, ![1, 1, 256, 128]⟩
abbrev S512x1408 : Shape := ⟨2, ![512, 1408]⟩
abbrev S512x512 : Shape := ⟨2, ![512, 512]⟩
abbrev S1x512x128 : Shape := ⟨3, ![1, 512, 128]⟩
abbrev S16x32x512 : Shape := ⟨3, ![16, 32, 512]⟩
abbrev S16x512 : Shape := ⟨2, ![16, 512]⟩
abbrev S16x1x512 : Shape := ⟨3, ![16, 1, 512]⟩
abbrev S1x16x512 : Shape := ⟨3, ![1, 16, 512]⟩
abbrev S256x512 : Shape := ⟨2, ![256, 512]⟩
abbrev S1x1x256x512 : Shape := ⟨4, ![1, 1, 256, 512]⟩
abbrev S128x5632 : Shape := ⟨2, ![128, 5632]⟩
abbrev S1x1x128 : Shape := ⟨3, ![1, 1, 128]⟩
abbrev S1x128 : Shape := ⟨2, ![1, 128]⟩
abbrev S44x512 : Shape := ⟨2, ![44, 512]⟩
abbrev S512x44 : Shape := ⟨2, ![512, 44]⟩
abbrev S256x44 : Shape := ⟨2, ![256, 44]⟩
abbrev S1x1x256x44 : Shape := ⟨4, ![1, 1, 256, 44]⟩
abbrev S176x512 : Shape := ⟨2, ![176, 512]⟩
abbrev S512x176 : Shape := ⟨2, ![512, 176]⟩
abbrev S256x176 : Shape := ⟨2, ![256, 176]⟩
abbrev S1x1x256x176 : Shape := ⟨4, ![1, 1, 256, 176]⟩

abbrev nBuf : Space → Nat
  | .hbm => 43
  | .vmem => 23
  | .smem => 0
  | _ => 0

abbrev bufTy : (tb : Table) → Fin (tcTables nBuf tb) → BufTy
  | .hbm, ⟨0, _⟩ => ⟨S176x2048x128, .f32⟩
  | .hbm, ⟨1, _⟩ => ⟨S8x4096x1408, .bf16⟩
  | .hbm, ⟨2, _⟩ => ⟨S1408, .f32⟩
  | .hbm, ⟨3, _⟩ => ⟨S1408, .f32⟩
  | .hbm, ⟨4, _⟩ => ⟨S1408, .f32⟩
  | .hbm, ⟨5, _⟩ => ⟨S1408x5632, .fp8e4m3⟩
  | .hbm, ⟨6, _⟩ => ⟨S5632, .f32⟩
  | .hbm, ⟨7, _⟩ => ⟨S5632, .f32⟩
  | .hbm, ⟨8, _⟩ => ⟨S5632x1408, .fp8e4m3⟩
  | .hbm, ⟨9, _⟩ => ⟨S1408, .f32⟩
  | .hbm, ⟨10, _⟩ => ⟨S1408, .f32⟩
  | .hbm, ⟨11, _⟩ => ⟨S1408, .f32⟩
  | .hbm, ⟨12, _⟩ => ⟨S1408x1, .f32⟩
  | .hbm, ⟨13, _⟩ => ⟨S1408x128, .f32⟩
  | .hbm, ⟨14, _⟩ => ⟨S1408x1, .f32⟩
  | .hbm, ⟨15, _⟩ => ⟨S1408x128, .f32⟩
  | .hbm, ⟨16, _⟩ => ⟨S1408x1, .f32⟩
  | .hbm, ⟨17, _⟩ => ⟨S1408x128, .f32⟩
  | .hbm, ⟨18, _⟩ => ⟨S1x1408x128, .f32⟩
  | .hbm, ⟨19, _⟩ => ⟨S1x1408x128, .f32⟩
  | .hbm, ⟨20, _⟩ => ⟨S1x1408x128, .f32⟩
  | .hbm, ⟨21, _⟩ => ⟨S3x1408x128, .f32⟩
  | .hbm, ⟨22, _⟩ => ⟨S5632x1, .f32⟩
  | .hbm, ⟨23, _⟩ => ⟨S5632x128, .f32⟩
  | .hbm, ⟨24, _⟩ => ⟨S5632x1, .f32⟩
  | .hbm, ⟨25, _⟩ => ⟨S5632x128, .f32⟩
  | .hbm, ⟨26, _⟩ => ⟨S1x5632x128, .f32⟩
  | .hbm, ⟨27, _⟩ => ⟨S1x5632x128, .f32⟩
  | .hbm, ⟨28, _⟩ => ⟨S2x5632x128, .f32⟩
  | .hbm, ⟨29, _⟩ => ⟨S1x1408, .f32⟩
  | .hbm, ⟨30, _⟩ => ⟨S1x1408, .f32⟩
  | .hbm, ⟨31, _⟩ => ⟨S1x1408, .f32⟩
  | .hbm, ⟨32, _⟩ => ⟨S3x1408, .f32⟩
  | .hbm, ⟨33, _⟩ => ⟨S3x1x1408, .f32⟩
  | .hbm, ⟨34, _⟩ => ⟨S5632x1408, .fp8e4m3⟩
  | .hbm, ⟨35, _⟩ => ⟨S1408x5632, .fp8e4m3⟩
  | .hbm, ⟨36, _⟩ => ⟨S176x2x1024x128, .f32⟩
  | .hbm, ⟨37, _⟩ => ⟨S2x64x256x1408, .bf16⟩
  | .hbm, ⟨38, _⟩ => ⟨S2x64x256x1408, .bf16⟩
  | .hbm, ⟨39, _⟩ => ⟨S2x64x256x1408, .fp8e4m3⟩
  | .hbm, ⟨40, _⟩ => ⟨S2x64x256x44, .f32⟩
  | .hbm, ⟨41, _⟩ => ⟨S2x64x256x5632, .fp8e4m3⟩
  | .hbm, ⟨42, _⟩ => ⟨S2x64x256x176, .f32⟩
  | .local _ .vmem, ⟨0, _⟩ => ⟨S176x2x16x128, .f32⟩
  | .local _ .vmem, ⟨1, _⟩ => ⟨S176x2x16x128, .f32⟩
  | .local _ .vmem, ⟨2, _⟩ => ⟨S2x1x256x1408, .bf16⟩
  | .local _ .vmem, ⟨3, _⟩ => ⟨S2x1x256x1408, .bf16⟩
  | .local _ .vmem, ⟨4, _⟩ => ⟨S5632x1408, .fp8e4m3⟩
  | .local _ .vmem, ⟨5, _⟩ => ⟨S1408x5632, .fp8e4m3⟩
  | .local _ .vmem, ⟨6, _⟩ => ⟨S3x1408x128, .f32⟩
  | .local _ .vmem, ⟨7, _⟩ => ⟨S2x5632x128, .f32⟩
  | .local _ .vmem, ⟨8, _⟩ => ⟨S3x1x1408, .f32⟩
  | .local _ .vmem, ⟨9, _⟩ => ⟨S2x1x256x1408, .bf16⟩
  | .local _ .vmem, ⟨10, _⟩ => ⟨S2x1x256x1408, .bf16⟩
  | .local _ .vmem, ⟨11, _⟩ => ⟨S2x1x256x1408, .fp8e4m3⟩
  | .local _ .vmem, ⟨12, _⟩ => ⟨S2x1x256x1408, .fp8e4m3⟩
  | .local _ .vmem, ⟨13, _⟩ => ⟨S2x1x256x44, .f32⟩
  | .local _ .vmem, ⟨14, _⟩ => ⟨S2x1x256x44, .f32⟩
  | .local _ .vmem, ⟨15, _⟩ => ⟨S2x1x256x5632, .fp8e4m3⟩
  | .local _ .vmem, ⟨16, _⟩ => ⟨S2x1x256x5632, .fp8e4m3⟩
  | .local _ .vmem, ⟨17, _⟩ => ⟨S2x1x256x176, .f32⟩
  | .local _ .vmem, ⟨18, _⟩ => ⟨S2x1x256x176, .f32⟩
  | .local _ .vmem, ⟨19, _⟩ => ⟨S1408x512, .bf16⟩
  | .local _ .vmem, ⟨20, _⟩ => ⟨S5632x512, .bf16⟩
  | .local _ .vmem, ⟨21, _⟩ => ⟨S11x4x512, .f32⟩
  | .local _ .vmem, ⟨22, _⟩ => ⟨S11x16x512, .f32⟩
  | _, _ => ⟨S176x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_v26_3 : Ref sig .tc := ⟨.hbm, 41, rfl⟩
abbrev main_v26_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c11_i32 : BitVec 32 := 11#32
  let v1 : BitVec 32 := Scalar.addi c0_i32 c11_i32
  let c1_i32 : BitVec 32 := 1#32
  ⟨c0_i32, v1, c1_i32⟩
def k0_off1 (k0_t1 : Fin k0_t1_loop.trips) : Fin 4 → Nat :=
  let c0_i32 : BitVec 32 := 0#32
  let c1_i32 : BitVec 32 := 1#32
  let arg17 : BitVec 32 := Scf.iv c0_i32 c1_i32 k0_t1
  let c16_i32 : BitVec 32 := 16#32
  let v41 : BitVec 32 := Scalar.muli arg17 c16_i32
  let v42 : Index := Scalar.indexCast v41
  let c0_42 : Index := 0#32
  let c0_43 : Index := 0#32
  let c0_44 : Index := 0#32
  ![v42.toNat, 0, 0, 0]
def k0_off2 (k0_t1 : Fin k0_t1_loop.trips) : Fin 4 → Nat :=
  let c0_i32 : BitVec 32 := 0#32
  let c1_i32 : BitVec 32 := 1#32
  let arg17 : BitVec 32 := Scf.iv c0_i32 c1_i32 k0_t1
  let c16_i32 : BitVec 32 := 16#32
  let v41 : BitVec 32 := Scalar.muli arg17 c16_i32
  let v46 : Index := Scalar.indexCast v41
  let c1_45 : Index := 1#32
  let c0_46 : Index := 0#32
  let c0_47 : Index := 0#32
  ![v46.toNat, 1, 0, 0]
def k0_off3 (k0_t1 : Fin k0_t1_loop.trips) : Fin 4 → Nat :=
  let c0_i32 : BitVec 32 := 0#32
  let c1_i32 : BitVec 32 := 1#32
  let arg17 : BitVec 32 := Scf.iv c0_i32 c1_i32 k0_t1
  let c16_i32 : BitVec 32 := 16#32
  let v41 : BitVec 32 := Scalar.muli arg17 c16_i32
  let v50 : Index := Scalar.indexCast v41
  let c0_48 : Index := 0#32
  let c8 : Index := 8#32
  let c0_49 : Index := 0#32
  ![v50.toNat, 0, 8, 0]
def k0_off4 (k0_t1 : Fin k0_t1_loop.trips) : Fin 4 → Nat :=
  let c0_i32 : BitVec 32 := 0#32
  let c1_i32 : BitVec 32 := 1#32
  let arg17 : BitVec 32 := Scf.iv c0_i32 c1_i32 k0_t1
  let c16_i32 : BitVec 32 := 16#32
  let v41 : BitVec 32 := Scalar.muli arg17 c16_i32
  let v54 : Index := Scalar.indexCast v41
  let c1_50 : Index := 1#32
  let c8_51 : Index := 8#32
  let c0_52 : Index := 0#32
  ![v54.toNat, 1, 8, 0]
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32 : BitVec 32 := 128#32
  let v59 : BitVec 32 := Scalar.muli arg17 c128_i32
  v59
def k0_off5 (k0_t1 : Fin k0_t1_loop.trips) : Fin 3 → Nat :=
  let c0_53 : Index := 0#32
  let c0_i32 : BitVec 32 := 0#32
  let c1_i32 : BitVec 32 := 1#32
  let arg17 : BitVec 32 := Scf.iv c0_i32 c1_i32 k0_t1
  let c128_i32 : BitVec 32 := 128#32
  let v59 : BitVec 32 := Scalar.muli arg17 c128_i32
  let v60 : BitVec 32 := v59
  let v61 : Index := Scalar.indexCast v60
  let c0_54 : Index := 0#32
  ![0, v61.toNat, 0]
@[reducible] def k0_t2_loop : Scf.Loop 32 :=
  let c0_i32_3 : BitVec 32 := 0#32
  let c11_i32_4 : BitVec 32 := 11#32
  let v7 : BitVec 32 := Scalar.addi c0_i32_3 c11_i32_4
  let c1_i32_5 : BitVec 32 := 1#32
  ⟨c0_i32_3, v7, c1_i32_5⟩
def k0_off6 (k0_t2 : Fin k0_t2_loop.trips) : Fin 4 → Nat :=
  let c0_i32_3 : BitVec 32 := 0#32
  let c1_i32_5 : BitVec 32 := 1#32
  let arg17 : BitVec 32 := Scf.iv c0_i32_3 c1_i32_5 k0_t2
  let c16_i32 : BitVec 32 := 16#32
  let v41 : BitVec 32 := Scalar.muli arg17 c16_i32
  let v42 : Index := Scalar.indexCast v41
  let c0_42 : Index := 0#32
  let c0_43 : Index := 0#32
  let c0_44 : Index := 0#32
  ![v42.toNat, 0, 0, 0]
def k0_off7 (k0_t2 : Fin k0_t2_loop.trips) : Fin 4 → Nat :=
  let c0_i32_3 : BitVec 32 := 0#32
  let c1_i32_5 : BitVec 32 := 1#32
  let arg17 : BitVec 32 := Scf.iv c0_i32_3 c1_i32_5 k0_t2
  let c16_i32 : BitVec 32 := 16#32
  let v41 : BitVec 32 := Scalar.muli arg17 c16_i32
  let v46 : Index := Scalar.indexCast v41
  let c1_45 : Index := 1#32
  let c0_46 : Index := 0#32
  let c0_47 : Index := 0#32
  ![v46.toNat, 1, 0, 0]
def k0_off8 (k0_t2 : Fin k0_t2_loop.trips) : Fin 4 → Nat :=
  let c0_i32_3 : BitVec 32 := 0#32
  let c1_i32_5 : BitVec 32 := 1#32
  let arg17 : BitVec 32 := Scf.iv c0_i32_3 c1_i32_5 k0_t2
  let c16_i32 : BitVec 32 := 16#32
  let v41 : BitVec 32 := Scalar.muli arg17 c16_i32
  let v50 : Index := Scalar.indexCast v41
  let c0_48 : Index := 0#32
  let c8 : Index := 8#32
  let c0_49 : Index := 0#32
  ![v50.toNat, 0, 8, 0]
def k0_off9 (k0_t2 : Fin k0_t2_loop.trips) : Fin 4 → Nat :=
  let c0_i32_3 : BitVec 32 := 0#32
  let c1_i32_5 : BitVec 32 := 1#32
  let arg17 : BitVec 32 := Scf.iv c0_i32_3 c1_i32_5 k0_t2
  let c16_i32 : BitVec 32 := 16#32
  let v41 : BitVec 32 := Scalar.muli arg17 c16_i32
  let v54 : Index := Scalar.indexCast v41
  let c1_50 : Index := 1#32
  let c8_51 : Index := 8#32
  let c0_52 : Index := 0#32
  ![v54.toNat, 1, 8, 0]
def k0_mult2 (k0_t2 : Fin k0_t2_loop.trips) : BitVec 32 :=
  let c0_i32_3 : BitVec 32 := 0#32
  let c1_i32_5 : BitVec 32 := 1#32
  let arg17 : BitVec 32 := Scf.iv c0_i32_3 c1_i32_5 k0_t2
  let c128_i32 : BitVec 32 := 128#32
  let v59 : BitVec 32 := Scalar.muli arg17 c128_i32
  v59
def k0_off10 (k0_t2 : Fin k0_t2_loop.trips) : Fin 3 → Nat :=
  let c0_53 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v59 : BitVec 32 := Scalar.muli arg17 c128_i32
  let v60 : BitVec 32 := v59
  let v61 : Index := Scalar.indexCast v60
  let c0_54 : Index := 0#32
  ![0, v61.toNat, 0]
@[reducible] def k0_t3_loop : Scf.Loop 32 :=
  let c0_i32_10 : BitVec 32 := 0#32
  let c11_i32_11 : BitVec 32 := 11#32
  let v16 : BitVec 32 := Scalar.addi c0_i32_10 c11_i32_11
  let c1_i32_12 : BitVec 32 := 1#32
  ⟨c0_i32_10, v16, c1_i32_12⟩
def k0_off11 (k0_t3 : Fin k0_t3_loop.trips) : Fin 4 → Nat :=
  let c0_i32_10 : BitVec 32 := 0#32
  let c1_i32_12 : BitVec 32 := 1#32
  let arg17 : BitVec 32 := Scf.iv c0_i32_10 c1_i32_12 k0_t3
  let c16_i32 : BitVec 32 := 16#32
  let v41 : BitVec 32 := Scalar.muli arg17 c16_i32
  let v42 : Index := Scalar.indexCast v41
  let c0_42 : Index := 0#32
  let c0_43 : Index := 0#32
  let c0_44 : Index := 0#32
  ![v42.toNat, 0, 0, 0]
def k0_off12 (k0_t3 : Fin k0_t3_loop.trips) : Fin 4 → Nat :=
  let c0_i32_10 : BitVec 32 := 0#32
  let c1_i32_12 : BitVec 32 := 1#32
  let arg17 : BitVec 32 := Scf.iv c0_i32_10 c1_i32_12 k0_t3
  let c16_i32 : BitVec 32 := 16#32
  let v41 : BitVec 32 := Scalar.muli arg17 c16_i32
  let v46 : Index := Scalar.indexCast v41
  let c1_45 : Index := 1#32
  let c0_46 : Index := 0#32
  let c0_47 : Index := 0#32
  ![v46.toNat, 1, 0, 0]
def k0_off13 (k0_t3 : Fin k0_t3_loop.trips) : Fin 4 → Nat :=
  let c0_i32_10 : BitVec 32 := 0#32
  let c1_i32_12 : BitVec 32 := 1#32
  let arg17 : BitVec 32 := Scf.iv c0_i32_10 c1_i32_12 k0_t3
  let c16_i32 : BitVec 32 := 16#32
  let v41 : BitVec 32 := Scalar.muli arg17 c16_i32
  let v50 : Index := Scalar.indexCast v41
  let c0_48 : Index := 0#32
  let c8 : Index := 8#32
  let c0_49 : Index := 0#32
  ![v50.toNat, 0, 8, 0]
def k0_off14 (k0_t3 : Fin k0_t3_loop.trips) : Fin 4 → Nat :=
  let c0_i32_10 : BitVec 32 := 0#32
  let c1_i32_12 : BitVec 32 := 1#32
  let arg17 : BitVec 32 := Scf.iv c0_i32_10 c1_i32_12 k0_t3
  let c16_i32 : BitVec 32 := 16#32
  let v41 : BitVec 32 := Scalar.muli arg17 c16_i32
  let v54 : Index := Scalar.indexCast v41
  let c1_50 : Index := 1#32
  let c8_51 : Index := 8#32
  let c0_52 : Index := 0#32
  ![v54.toNat, 1, 8, 0]
def k0_mult3 (k0_t3 : Fin k0_t3_loop.trips) : BitVec 32 :=
  let c0_i32_10 : BitVec 32 := 0#32
  let c1_i32_12 : BitVec 32 := 1#32
  let arg17 : BitVec 32 := Scf.iv c0_i32_10 c1_i32_12 k0_t3
  let c128_i32 : BitVec 32 := 128#32
  let v59 : BitVec 32 := Scalar.muli arg17 c128_i32
  v59
def k0_off15 (k0_t3 : Fin k0_t3_loop.trips) : Fin 3 → Nat :=
  let c0_53 : Index := 0#32
  let c0_i32_10 : BitVec 32 := 0#32
  let c1_i32_12 : BitVec 32 := 1#32
  let arg17 : BitVec 32 := Scf.iv c0_i32_10 c1_i32_12 k0_t3
  let c128_i32 : BitVec 32 := 128#32
  let v59 : BitVec 32 := Scalar.muli arg17 c128_i32
  let v60 : BitVec 32 := v59
  let v61 : Index := Scalar.indexCast v60
  let c0_54 : Index := 0#32
  ![0, v61.toNat, 0]
def k0_mult4 (k0_t3 : Fin k0_t3_loop.trips) : BitVec 32 :=
  let c0_i32_10 : BitVec 32 := 0#32
  let c1_i32_12 : BitVec 32 := 1#32
  let arg17 : BitVec 32 := Scf.iv c0_i32_10 c1_i32_12 k0_t3
  let c128_i32_55 : BitVec 32 := 128#32
  let v70 : BitVec 32 := Scalar.muli arg17 c128_i32_55
  v70
def k0_off16 (k0_t3 : Fin k0_t3_loop.trips) : Fin 3 → Nat :=
  let c1_56 : Index := 1#32
  let c0_i32_10 : BitVec 32 := 0#32
  let c1_i32_12 : BitVec 32 := 1#32
  let arg17 : BitVec 32 := Scf.iv c0_i32_10 c1_i32_12 k0_t3
  let c128_i32_55 : BitVec 32 := 128#32
  let v70 : BitVec 32 := Scalar.muli arg17 c128_i32_55
  let v71 : BitVec 32 := v70
  let v72 : Index := Scalar.indexCast v71
  let c0_57 : Index := 0#32
  ![1, v72.toNat, 0]
def k0_mult5 (k0_t3 : Fin k0_t3_loop.trips) : BitVec 32 :=
  let c0_i32_10 : BitVec 32 := 0#32
  let c1_i32_12 : BitVec 32 := 1#32
  let arg17 : BitVec 32 := Scf.iv c0_i32_10 c1_i32_12 k0_t3
  let c128_i32_58 : BitVec 32 := 128#32
  let v77 : BitVec 32 := Scalar.muli arg17 c128_i32_58
  v77
def k0_off17 (k0_t3 : Fin k0_t3_loop.trips) : Fin 3 → Nat :=
  let c2 : Index := 2#32
  let c0_i32_10 : BitVec 32 := 0#32
  let c1_i32_12 : BitVec 32 := 1#32
  let arg17 : BitVec 32 := Scf.iv c0_i32_10 c1_i32_12 k0_t3
  let c128_i32_58 : BitVec 32 := 128#32
  let v77 : BitVec 32 := Scalar.muli arg17 c128_i32_58
  let v78 : BitVec 32 := v77
  let v79 : Index := Scalar.indexCast v78
  let c0_59 : Index := 0#32
  ![2, v79.toNat, 0]
def k0_mult6 (k0_t3 : Fin k0_t3_loop.trips) : BitVec 32 :=
  let c0_i32_10 : BitVec 32 := 0#32
  let c1_i32_12 : BitVec 32 := 1#32
  let arg17 : BitVec 32 := Scf.iv c0_i32_10 c1_i32_12 k0_t3
  let c128_i32_79 : BitVec 32 := 128#32
  let v177 : BitVec 32 := Scalar.muli arg17 c128_i32_79
  v177
def k0_off18 (k0_t3 : Fin k0_t3_loop.trips) : Fin 2 → Nat :=
  let c0_i32_10 : BitVec 32 := 0#32
  let c1_i32_12 : BitVec 32 := 1#32
  let arg17 : BitVec 32 := Scf.iv c0_i32_10 c1_i32_12 k0_t3
  let c128_i32_79 : BitVec 32 := 128#32
  let v177 : BitVec 32 := Scalar.muli arg17 c128_i32_79
  let v178 : BitVec 32 := v177
  let v179 : Index := Scalar.indexCast v178
  let c0_80 : Index := 0#32
  ![v179.toNat, 0]
def k0_off19 (k0_t3 : Fin k0_t3_loop.trips) : Fin 3 → Nat :=
  let c0_i32_10 : BitVec 32 := 0#32
  let c1_i32_12 : BitVec 32 := 1#32
  let arg17 : BitVec 32 := Scf.iv c0_i32_10 c1_i32_12 k0_t3
  let v184 : Index := Scalar.indexCast arg17
  let c0_81 : Index := 0#32
  let c0_82 : Index := 0#32
  ![v184.toNat, 0, 0]
def k0_mult7 (k0_t3 : Fin k0_t3_loop.trips) : BitVec 32 :=
  let c0_i32_10 : BitVec 32 := 0#32
  let c1_i32_12 : BitVec 32 := 1#32
  let arg17 : BitVec 32 := Scf.iv c0_i32_10 c1_i32_12 k0_t3
  let c128_i32_83 : BitVec 32 := 128#32
  let v190 : BitVec 32 := Scalar.muli arg17 c128_i32_83
  v190
def k0_off20 (k0_t3 : Fin k0_t3_loop.trips) : Fin 4 → Nat :=
  let c0_84 : Index := 0#32
  let c0_85 : Index := 0#32
  let c0_86 : Index := 0#32
  let c0_i32_10 : BitVec 32 := 0#32
  let c1_i32_12 : BitVec 32 := 1#32
  let arg17 : BitVec 32 := Scf.iv c0_i32_10 c1_i32_12 k0_t3
  let c128_i32_83 : BitVec 32 := 128#32
  let v190 : BitVec 32 := Scalar.muli arg17 c128_i32_83
  let v191 : BitVec 32 := v190
  let v193 : Index := Scalar.indexCast v191
  ![0, 0, 0, v193.toNat]
def k0_off21 (k0_t3 : Fin k0_t3_loop.trips) : Fin 4 → Nat :=
  let c1_87 : Index := 1#32
  let c0_88 : Index := 0#32
  let c0_89 : Index := 0#32
  let c0_i32_10 : BitVec 32 := 0#32
  let c1_i32_12 : BitVec 32 := 1#32
  let arg17 : BitVec 32 := Scf.iv c0_i32_10 c1_i32_12 k0_t3
  let c128_i32_83 : BitVec 32 := 128#32
  let v190 : BitVec 32 := Scalar.muli arg17 c128_i32_83
  let v191 : BitVec 32 := v190
  let v198 : Index := Scalar.indexCast v191
  ![1, 0, 0, v198.toNat]
@[reducible] def k0_t4_loop : Scf.Loop 32 :=
  let c0_i32_14 : BitVec 32 := 0#32
  let c11_i32_15 : BitVec 32 := 11#32
  let v17 : BitVec 32 := Scalar.addi c0_i32_14 c11_i32_15
  let c1_i32_16 : BitVec 32 := 1#32
  ⟨c0_i32_14, v17, c1_i32_16⟩
def k0_mult8 (k0_t4 : Fin k0_t4_loop.trips) : BitVec 32 :=
  let c0_i32_14 : BitVec 32 := 0#32
  let c1_i32_16 : BitVec 32 := 1#32
  let arg17 : BitVec 32 := Scf.iv c0_i32_14 c1_i32_16 k0_t4
  let c512_i32 : BitVec 32 := 512#32
  let v41 : BitVec 32 := Scalar.muli arg17 c512_i32
  v41
def k0_off22 (k0_t4 : Fin k0_t4_loop.trips) : Fin 2 → Nat :=
  let c0_i32_14 : BitVec 32 := 0#32
  let c1_i32_16 : BitVec 32 := 1#32
  let arg17 : BitVec 32 := Scf.iv c0_i32_14 c1_i32_16 k0_t4
  let c512_i32 : BitVec 32 := 512#32
  let v41 : BitVec 32 := Scalar.muli arg17 c512_i32
  let v42 : BitVec 32 := v41
  let v43 : Index := Scalar.indexCast v42
  let c0_42 : Index := 0#32
  ![v43.toNat, 0]
def k0_mult9 (k0_t4 : Fin k0_t4_loop.trips) : BitVec 32 :=
  let c0_i32_14 : BitVec 32 := 0#32
  let c1_i32_16 : BitVec 32 := 1#32
  let arg17 : BitVec 32 := Scf.iv c0_i32_14 c1_i32_16 k0_t4
  let c512_i32_46 : BitVec 32 := 512#32
  let v49 : BitVec 32 := Scalar.muli arg17 c512_i32_46
  v49
def k0_off23 (k0_t4 : Fin k0_t4_loop.trips) : Fin 3 → Nat :=
  let c0_47 : Index := 0#32
  let c0_i32_14 : BitVec 32 := 0#32
  let c1_i32_16 : BitVec 32 := 1#32
  let arg17 : BitVec 32 := Scf.iv c0_i32_14 c1_i32_16 k0_t4
  let c512_i32_46 : BitVec 32 := 512#32
  let v49 : BitVec 32 := Scalar.muli arg17 c512_i32_46
  let v50 : BitVec 32 := v49
  let v51 : Index := Scalar.indexCast v50
  let c0_48 : Index := 0#32
  ![0, v51.toNat, 0]
def k0_mult10 (k0_t4 : Fin k0_t4_loop.trips) : BitVec 32 :=
  let c0_i32_14 : BitVec 32 := 0#32
  let c1_i32_16 : BitVec 32 := 1#32
  let arg17 : BitVec 32 := Scf.iv c0_i32_14 c1_i32_16 k0_t4
  let c512_i32_49 : BitVec 32 := 512#32
  let v56 : BitVec 32 := Scalar.muli arg17 c512_i32_49
  v56
def k0_off24 (k0_t4 : Fin k0_t4_loop.trips) : Fin 3 → Nat :=
  let c1_50 : Index := 1#32
  let c0_i32_14 : BitVec 32 := 0#32
  let c1_i32_16 : BitVec 32 := 1#32
  let arg17 : BitVec 32 := Scf.iv c0_i32_14 c1_i32_16 k0_t4
  let c512_i32_49 : BitVec 32 := 512#32
  let v56 : BitVec 32 := Scalar.muli arg17 c512_i32_49
  let v57 : BitVec 32 := v56
  let v58 : Index := Scalar.indexCast v57
  let c0_51 : Index := 0#32
  ![1, v58.toNat, 0]
def k0_off25 (k0_t4 : Fin k0_t4_loop.trips) : Fin 2 → Nat :=
  let c0_i32_14 : BitVec 32 := 0#32
  let c1_i32_16 : BitVec 32 := 1#32
  let arg17 : BitVec 32 := Scf.iv c0_i32_14 c1_i32_16 k0_t4
  let c512_i32 : BitVec 32 := 512#32
  let v41 : BitVec 32 := Scalar.muli arg17 c512_i32
  let v42 : BitVec 32 := v41
  let v164 : Index := Scalar.indexCast v42
  let c0_72 : Index := 0#32
  ![v164.toNat, 0]
def k0_off26 (k0_t4 : Fin k0_t4_loop.trips) : Fin 3 → Nat :=
  let c0_i32_14 : BitVec 32 := 0#32
  let c1_i32_16 : BitVec 32 := 1#32
  let arg17 : BitVec 32 := Scf.iv c0_i32_14 c1_i32_16 k0_t4
  let v169 : Index := Scalar.indexCast arg17
  let c0_73 : Index := 0#32
  let c0_74 : Index := 0#32
  ![v169.toNat, 0, 0]
def k0_mult11 (k0_t4 : Fin k0_t4_loop.trips) : BitVec 32 :=
  let c0_i32_14 : BitVec 32 := 0#32
  let c1_i32_16 : BitVec 32 := 1#32
  let arg17 : BitVec 32 := Scf.iv c0_i32_14 c1_i32_16 k0_t4
  let c512_i32_75 : BitVec 32 := 512#32
  let v175 : BitVec 32 := Scalar.muli arg17 c512_i32_75
  v175
def k0_off27 (k0_t4 : Fin k0_t4_loop.trips) : Fin 4 → Nat :=
  let c0_76 : Index := 0#32
  let c0_77 : Index := 0#32
  let c0_78 : Index := 0#32
  let c0_i32_14 : BitVec 32 := 0#32
  let c1_i32_16 : BitVec 32 := 1#32
  let arg17 : BitVec 32 := Scf.iv c0_i32_14 c1_i32_16 k0_t4
  let c512_i32_75 : BitVec 32 := 512#32
  let v175 : BitVec 32 := Scalar.muli arg17 c512_i32_75
  let v176 : BitVec 32 := v175
  let v178 : Index := Scalar.indexCast v176
  ![0, 0, 0, v178.toNat]
def k0_off28 (k0_t4 : Fin k0_t4_loop.trips) : Fin 4 → Nat :=
  let c1_79 : Index := 1#32
  let c0_80 : Index := 0#32
  let c0_81 : Index := 0#32
  let c0_i32_14 : BitVec 32 := 0#32
  let c1_i32_16 : BitVec 32 := 1#32
  let arg17 : BitVec 32 := Scf.iv c0_i32_14 c1_i32_16 k0_t4
  let c512_i32_75 : BitVec 32 := 512#32
  let v175 : BitVec 32 := Scalar.muli arg17 c512_i32_75
  let v176 : BitVec 32 := v175
  let v183 : Index := Scalar.indexCast v176
  ![1, 0, 0, v183.toNat]
@[reducible] def k0_t5_loop : Scf.Loop 32 :=
  let c0_i32_18 : BitVec 32 := 0#32
  let c11_i32_19 : BitVec 32 := 11#32
  let v18 : BitVec 32 := Scalar.addi c0_i32_18 c11_i32_19
  let c1_i32_20 : BitVec 32 := 1#32
  ⟨c0_i32_18, v18, c1_i32_20⟩
def k0_mult12 (k0_t5 : Fin k0_t5_loop.trips) : BitVec 32 :=
  let c0_i32_18 : BitVec 32 := 0#32
  let c1_i32_20 : BitVec 32 := 1#32
  let arg17 : BitVec 32 := Scf.iv c0_i32_18 c1_i32_20 k0_t5
  let c128_i32 : BitVec 32 := 128#32
  let v41 : BitVec 32 := Scalar.muli arg17 c128_i32
  v41
def k0_off29 (k0_t5 : Fin k0_t5_loop.trips) : Fin 2 → Nat :=
  let c0_i32_18 : BitVec 32 := 0#32
  let c1_i32_20 : BitVec 32 := 1#32
  let arg17 : BitVec 32 := Scf.iv c0_i32_18 c1_i32_20 k0_t5
  let c128_i32 : BitVec 32 := 128#32
  let v41 : BitVec 32 := Scalar.muli arg17 c128_i32
  let v42 : BitVec 32 := v41
  let v43 : Index := Scalar.indexCast v42
  let c0_42 : Index := 0#32
  ![v43.toNat, 0]
def k0_off30 (k0_t5 : Fin k0_t5_loop.trips) : Fin 3 → Nat :=
  let c0_46 : Index := 0#32
  let c0_47 : Index := 0#32
  let c0_i32_18 : BitVec 32 := 0#32
  let c1_i32_20 : BitVec 32 := 1#32
  let arg17 : BitVec 32 := Scf.iv c0_i32_18 c1_i32_20 k0_t5
  let c128_i32 : BitVec 32 := 128#32
  let v41 : BitVec 32 := Scalar.muli arg17 c128_i32
  let v42 : BitVec 32 := v41
  let v50 : Index := Scalar.indexCast v42
  ![0, 0, v50.toNat]
def k0_off31 (k0_t5 : Fin k0_t5_loop.trips) : Fin 3 → Nat :=
  let c1_48 : Index := 1#32
  let c0_49 : Index := 0#32
  let c0_i32_18 : BitVec 32 := 0#32
  let c1_i32_20 : BitVec 32 := 1#32
  let arg17 : BitVec 32 := Scf.iv c0_i32_18 c1_i32_20 k0_t5
  let c128_i32 : BitVec 32 := 128#32
  let v41 : BitVec 32 := Scalar.muli arg17 c128_i32
  let v42 : BitVec 32 := v41
  let v55 : Index := Scalar.indexCast v42
  ![1, 0, v55.toNat]
def k0_off32 (k0_t5 : Fin k0_t5_loop.trips) : Fin 3 → Nat :=
  let c2 : Index := 2#32
  let c0_50 : Index := 0#32
  let c0_i32_18 : BitVec 32 := 0#32
  let c1_i32_20 : BitVec 32 := 1#32
  let arg17 : BitVec 32 := Scf.iv c0_i32_18 c1_i32_20 k0_t5
  let c128_i32 : BitVec 32 := 128#32
  let v41 : BitVec 32 := Scalar.muli arg17 c128_i32
  let v42 : BitVec 32 := v41
  let v60 : Index := Scalar.indexCast v42
  ![2, 0, v60.toNat]
def k0_off33 (k0_t5 : Fin k0_t5_loop.trips) : Fin 4 → Nat :=
  let c0_51 : Index := 0#32
  let c0_52 : Index := 0#32
  let c0_53 : Index := 0#32
  let c0_i32_18 : BitVec 32 := 0#32
  let c1_i32_20 : BitVec 32 := 1#32
  let arg17 : BitVec 32 := Scf.iv c0_i32_18 c1_i32_20 k0_t5
  let c128_i32 : BitVec 32 := 128#32
  let v41 : BitVec 32 := Scalar.muli arg17 c128_i32
  let v42 : BitVec 32 := v41
  let v65 : Index := Scalar.indexCast v42
  ![0, 0, 0, v65.toNat]
def k0_off34 (k0_t5 : Fin k0_t5_loop.trips) : Fin 4 → Nat :=
  let c1_57 : Index := 1#32
  let c0_58 : Index := 0#32
  let c0_59 : Index := 0#32
  let c0_i32_18 : BitVec 32 := 0#32
  let c1_i32_20 : BitVec 32 := 1#32
  let arg17 : BitVec 32 := Scf.iv c0_i32_18 c1_i32_20 k0_t5
  let c128_i32 : BitVec 32 := 128#32
  let v41 : BitVec 32 := Scalar.muli arg17 c128_i32
  let v42 : BitVec 32 := v41
  let v76 : Index := Scalar.indexCast v42
  ![1, 0, 0, v76.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S176x2x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1408x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x5632x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x1x256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x256x1408 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x256x44 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x256x5632 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x256x176 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S176x2048x128 : Shape := ⟨3, ![176, 2048, 128]⟩
abbrev S8x4096x1408 : Shape := ⟨3, ![8, 4096, 1408]⟩
abbrev S1408 : Shape := ⟨1, ![1408]⟩
abbrev S1408x5632 : Shape := ⟨2, ![1408, 5632]⟩
abbrev S5632 : Shape := ⟨1, ![5632]⟩
abbrev S5632x1408 : Shape := ⟨2, ![5632, 1408]⟩
abbrev S176x2x4x16x2x8x128 : Shape := ⟨7, ![176, 2, 4, 16, 2, 8, 128]⟩
abbrev S2x4x16x2x128x176x8 : Shape := ⟨7, ![2, 4, 16, 2, 128, 176, 8]⟩
abbrev S32768x1408 : Shape := ⟨2, ![32768, 1408]⟩
abbrev S1x1408 : Shape := ⟨2, ![1, 1408]⟩
abbrev S1x5632 : Shape := ⟨2, ![1, 5632]⟩
abbrev S2x64x256x1408 : Shape := ⟨4, ![2, 64, 256, 1408]⟩
abbrev S2x64x256x44 : Shape := ⟨4, ![2, 64, 256, 44]⟩
abbrev S2x64x256x5632 : Shape := ⟨4, ![2, 64, 256, 5632]⟩
abbrev S2x64x256x176 : Shape := ⟨4, ![2, 64, 256, 176]⟩
abbrev S32768 : Shape := ⟨1, ![32768]⟩
abbrev S32768x1 : Shape := ⟨2, ![32768, 1]⟩
abbrev S32768x44x32 : Shape := ⟨3, ![32768, 44, 32]⟩
abbrev S32768x44 : Shape := ⟨2, ![32768, 44]⟩
abbrev S32768x44x1 : Shape := ⟨3, ![32768, 44, 1]⟩
abbrev S32768x44x252 : Shape := ⟨3, ![32768, 44, 252]⟩
abbrev S32768x5632 : Shape := ⟨2, ![32768, 5632]⟩
abbrev S32768x176x32 : Shape := ⟨3, ![32768, 176, 32]⟩
abbrev S32768x176 : Shape := ⟨2, ![32768, 176]⟩
abbrev S32768x176x1 : Shape := ⟨3, ![32768, 176, 1]⟩
abbrev S32768x176x252 : Shape := ⟨3, ![32768, 176, 252]⟩

abbrev nBuf : Space → Nat
  | .hbm => 29
  | .vmem => 17
  | .smem => 0
  | _ => 0

abbrev bufTy : (tb : Table) → Fin (tcTables nBuf tb) → BufTy
  | .hbm, ⟨0, _⟩ => ⟨S176x2048x128, .f32⟩
  | .hbm, ⟨1, _⟩ => ⟨S8x4096x1408, .bf16⟩
  | .hbm, ⟨2, _⟩ => ⟨S1408, .f32⟩
  | .hbm, ⟨3, _⟩ => ⟨S1408, .f32⟩
  | .hbm, ⟨4, _⟩ => ⟨S1408, .f32⟩
  | .hbm, ⟨5, _⟩ => ⟨S1408x5632, .fp8e4m3⟩
  | .hbm, ⟨6, _⟩ => ⟨S5632, .f32⟩
  | .hbm, ⟨7, _⟩ => ⟨S5632, .f32⟩
  | .hbm, ⟨8, _⟩ => ⟨S5632x1408, .fp8e4m3⟩
  | .hbm, ⟨9, _⟩ => ⟨S1408, .f32⟩
  | .hbm, ⟨10, _⟩ => ⟨S1408, .f32⟩
  | .hbm, ⟨11, _⟩ => ⟨S1408, .f32⟩
  | .hbm, ⟨12, _⟩ => ⟨S176x2x4x16x2x8x128, .f32⟩
  | .hbm, ⟨13, _⟩ => ⟨S2x4x16x2x128x176x8, .f32⟩
  | .hbm, ⟨14, _⟩ => ⟨S32768x1408, .f32⟩
  | .hbm, ⟨15, _⟩ => ⟨S32768x1408, .bf16⟩
  | .hbm, ⟨16, _⟩ => ⟨S1x1408, .f32⟩
  | .hbm, ⟨17, _⟩ => ⟨S1x1408, .f32⟩
  | .hbm, ⟨18, _⟩ => ⟨S1x1408, .f32⟩
  | .hbm, ⟨19, _⟩ => ⟨S1x5632, .f32⟩
  | .hbm, ⟨20, _⟩ => ⟨S1x5632, .f32⟩
  | .hbm, ⟨21, _⟩ => ⟨S1x1408, .f32⟩
  | .hbm, ⟨22, _⟩ => ⟨S1x1408, .f32⟩
  | .hbm, ⟨23, _⟩ => ⟨S1x1408, .f32⟩
  | .hbm, ⟨24, _⟩ => ⟨S2x64x256x1408, .bf16⟩
  | .hbm, ⟨25, _⟩ => ⟨S2x64x256x1408, .fp8e4m3⟩
  | .hbm, ⟨26, _⟩ => ⟨S2x64x256x44, .f32⟩
  | .hbm, ⟨27, _⟩ => ⟨S2x64x256x5632, .fp8e4m3⟩
  | .hbm, ⟨28, _⟩ => ⟨S2x64x256x176, .f32⟩
  | .local _ .vmem, ⟨0, _⟩ => ⟨S32768x1408, .f32⟩
  | .local _ .vmem, ⟨1, _⟩ => ⟨S32768x1408, .bf16⟩
  | .local _ .vmem, ⟨2, _⟩ => ⟨S1x1408, .f32⟩
  | .local _ .vmem, ⟨3, _⟩ => ⟨S1x1408, .f32⟩
  | .local _ .vmem, ⟨4, _⟩ => ⟨S1x1408, .f32⟩
  | .local _ .vmem, ⟨5, _⟩ => ⟨S1408x5632, .fp8e4m3⟩
  | .local _ .vmem, ⟨6, _⟩ => ⟨S1x5632, .f32⟩
  | .local _ .vmem, ⟨7, _⟩ => ⟨S1x5632, .f32⟩
  | .local _ .vmem, ⟨8, _⟩ => ⟨S5632x1408, .fp8e4m3⟩
  | .local _ .vmem, ⟨9, _⟩ => ⟨S1x1408, .f32⟩
  | .local _ .vmem, ⟨10, _⟩ => ⟨S1x1408, .f32⟩
  | .local _ .vmem, ⟨11, _⟩ => ⟨S1x1408, .f32⟩
  | .local _ .vmem, ⟨12, _⟩ => ⟨S2x64x256x1408, .bf16⟩
  | .local _ .vmem, ⟨13, _⟩ => ⟨S2x64x256x1408, .fp8e4m3⟩
  | .local _ .vmem, ⟨14, _⟩ => ⟨S2x64x256x44, .f32⟩
  | .local _ .vmem, ⟨15, _⟩ => ⟨S2x64x256x5632, .fp8e4m3⟩
  | .local _ .vmem, ⟨16, _⟩ => ⟨S2x64x256x176, .f32⟩
  | _, _ => ⟨S176x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S32768x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1408x5632 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5632x1408 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1408 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1408 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x64x256x1408 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x64x256x1408 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x64x256x44 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x64x256x5632 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x64x256x176 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Exponent.lean ====
/-
  THE BLOCK SCALE, computed in two ways.

  The kernel finds the biased exponent of a block's scaled amplitude by a binary search over the powers of two
  (`bexp`), and builds the scale and its inverse from the exponent's bits (`kScale`, `kInv`). The reference counts
  how many powers of two do not exceed the amplitude (`cnt`), and raises 2 to the resulting exponent (`rScale`,
  `rInv`). Both are the power of two `2 ^ bx x`, for every extended real `x`.
-/
module

public import Idealize.ShloMosaic.Lib.Pointwise

@[expose] public section

set_option maxRecDepth 16384
noncomputable section
open Idealize.ShloMosaic
namespace Quant

/-- The float whose exponent field is `j` and whose fraction is zero. -/
def θ (j : ℕ) : EReal := Ideal.ofBits .f32 (IntOp.shli .vector (BitVec.ofNat 32 j) 23#32)

theorem fields : ∀ k : Fin 256,
    ((IntOp.shli .vector (BitVec.ofNat 32 k.val) 23#32).extractLsb' (8 + 23) 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

theorem ofBits_f32 (b : BitVec 32) (k : ℕ) (hs : (b.extractLsb' (8 + 23) 1 == 1#1) = false)
    (he : (b.extractLsb' 23 8).toNat = k) (hf : (b.extractLsb' 0 23).toNat = 0) :
    Ideal.ofBits .f32 b = if k = 255 then ⊤ else if k = 0 then 0
      else (((2 : ℝ) ^ (23 : ℕ) * (2 : ℝ) ^ ((k : ℤ) - 127 - 23) : ℝ) : EReal) := by
  have h : Ideal.ofBits .f32 b = Ideal.ieee 8 23 b := rfl
  rw [h]
  unfold Ideal.ieee
  simp only [hs, he, hf]
  norm_num

theorem θ_eq (j : ℕ) (h1 : 1 ≤ j) (h2 : j ≤ 254) : θ j = (((2 : ℝ) ^ ((j : ℤ) - 127) : ℝ) : EReal) := by
  have hf := fields ⟨j, by omega⟩
  unfold θ
  rw [ofBits_f32 _ j hf.1 hf.2.1 hf.2.2, if_neg (by omega), if_neg (by omega)]
  congr 1
  have : (2 : ℝ) ^ ((j : ℤ) - 127) = (2 : ℝ) ^ (23 : ℤ) * (2 : ℝ) ^ ((j : ℤ) - 127 - 23) := by
    rw [← zpow_add₀ (by norm_num)]; congr 1; ring
  rw [this]
  norm_cast

theorem θ_top : θ 255 = ⊤ := by
  have hf := fields ⟨255, by omega⟩
  unfold θ
  rw [ofBits_f32 _ 255 hf.1 hf.2.1 hf.2.2, if_pos rfl]

theorem θ_mono {i j : ℕ} (h1 : 1 ≤ i) (hij : i ≤ j) (h2 : j ≤ 255) : θ i ≤ θ j := by
  by_cases hj : j = 255
  · subst hj; rw [θ_top]; exact le_top
  · rw [θ_eq i h1 (by omega), θ_eq j (by omega) (by omega)]
    exact EReal.coe_le_coe_iff.mpr (zpow_le_zpow_right₀ (by norm_num) (by omega))

/-- The exponent field of the largest power of two not above `x`; 0 when there is none. -/
def N (x : EReal) : ℕ := by classical exact Nat.findGreatest (fun j => θ j ≤ x) 255

theorem N_le (x : EReal) : N x ≤ 255 := by classical exact Nat.findGreatest_le _

theorem θ_le_iff (x : EReal) {j : ℕ} (h1 : 1 ≤ j) (h2 : j ≤ 255) : θ j ≤ x ↔ j ≤ N x := by
  classical
  constructor
  · intro h; exact Nat.le_findGreatest h2 h
  · intro h
    have hN : θ (N x) ≤ x :=
      Nat.findGreatest_of_ne_zero (P := fun j => θ j ≤ x) (n := 255) (m := N x) rfl (by omega)
    exact (θ_mono h1 h (N_le x)).trans hN

/-- One step of the search: try the exponent `e + s`. -/
def step (x : EReal) (e s : BitVec 32) : BitVec 32 :=
  Scalar.select (Ideal.cmp .oge x (Ideal.ofBits .f32 (IntOp.shli .vector (IntOp.addi e s) 23#32))) (IntOp.addi e s) e

theorem step_inv (x : EReal) (a s : ℕ) (hs : 1 ≤ s) (h : a + 2 * s ≤ 256) (ha : a ≤ N x) (hb : N x < a + 2 * s) :
    ∃ a', step x (BitVec.ofNat 32 a) (BitVec.ofNat 32 s) = BitVec.ofNat 32 a' ∧ a' ≤ N x ∧ N x < a' + s ∧ a' + s ≤ 256 := by
  have hadd : IntOp.addi (BitVec.ofNat 32 a) (BitVec.ofNat 32 s) = BitVec.ofNat 32 (a + s) := by
    show BitVec.ofNat 32 a + BitVec.ofNat 32 s = _
    rw [← BitVec.ofNat_add]
  have hle : θ (a + s) ≤ x ↔ a + s ≤ N x := θ_le_iff x (by omega) (by omega)
  unfold step
  rw [hadd]
  change ∃ a', Scalar.select (BitVec.ofBool (decide (θ (a + s) ≤ x))) _ _ = _ ∧ _
  by_cases hx : a + s ≤ N x
  · refine ⟨a + s, ?_, hx, by omega, by omega⟩
    simp only [hle.mpr hx, decide_true]; rfl
  · refine ⟨a, ?_, ha, by omega, by omega⟩
    have : ¬ θ (a + s) ≤ x := fun hh => hx (hle.mp hh)
    simp only [this, decide_false]; rfl

/-- The first five steps of the search. -/
def top5 (x : EReal) : BitVec 32 := step x (step x (step x (step x 0#32 128#32) 64#32) 32#32) 16#32

/-- The search: eight steps, and the result capped at 252. -/
def bexp (x : EReal) : BitVec 32 :=
  IntOp.minsi (step x (step x (step x (step x (top5 x) 8#32) 4#32) 2#32) 1#32) 252#32

theorem minsi_ofNat : ∀ a : Fin 256, IntOp.minsi (BitVec.ofNat 32 a.val) 252#32 = BitVec.ofNat 32 (min 252 a.val) := by
  decide +kernel

/-- The capped exponent field. -/
def N' (x : EReal) : ℕ := min 252 (N x)

theorem N'_le (x : EReal) : N' x ≤ 252 := by unfold N'; omega

theorem bexp_eq (x : EReal) : bexp x = BitVec.ofNat 32 (N' x) := by
  obtain ⟨a1, e1, l1, u1, w1⟩ := step_inv x 0 128 (by omega) (by omega) (by omega) (by have := N_le x; omega)
  obtain ⟨a2, e2, l2, u2, w2⟩ := step_inv x a1 64 (by omega) (by omega) l1 (by omega)
  obtain ⟨a3, e3, l3, u3, w3⟩ := step_inv x a2 32 (by omega) (by omega) l2 (by omega)
  obtain ⟨a4, e4, l4, u4, w4⟩ := step_inv x a3 16 (by omega) (by omega) l3 (by omega)
  obtain ⟨a5, e5, l5, u5, w5⟩ := step_inv x a4 8 (by omega) (by omega) l4 (by omega)
  obtain ⟨a6, e6, l6, u6, w6⟩ := step_inv x a5 4 (by omega) (by omega) l5 (by omega)
  obtain ⟨a7, e7, l7, u7, w7⟩ := step_inv x a6 2 (by omega) (by omega) l6 (by omega)
  obtain ⟨a8, e8, l8, u8, w8⟩ := step_inv x a7 1 (by omega) (by omega) l7 (by omega)
  have h8 : a8 = N x := by omega
  unfold bexp top5
  rw [e1, e2, e3, e4, e5, e6, e7, e8, h8]
  exact minsi_ofNat ⟨N x, by have := N_le x; omega⟩

/-- The exponent of the block scale. -/
def bx (x : EReal) : ℤ := if N' x = 0 then 0 else (N' x : ℤ) - 126

/-- The block scale … -/
def sc (x : EReal) : EReal := (((2 : ℝ) ^ bx x : ℝ) : EReal)
/-- … and its inverse. -/
def iv (x : EReal) : EReal := (((2 : ℝ) ^ (-bx x) : ℝ) : EReal)

/-- The kernel's exponent: 126 where the search found none. -/
def kE (x : EReal) : BitVec 32 := Scalar.select (IntOp.cmpi .eq (bexp x) 0#32) 126#32 (bexp x)
/-- The kernel's scale, from its bits. -/
def kScale (x : EReal) : EReal := Ideal.ofBits .f32 (IntOp.shli .vector (IntOp.addi (kE x) 1#32) 23#32)
/-- The kernel's inverse scale, from its bits. -/
def kInv (x : EReal) : EReal := Ideal.ofBits .f32 (IntOp.shli .vector (IntOp.subi 253#32 (kE x)) 23#32)

theorem kE_bits : ∀ a : Fin 253,
    Scalar.select (IntOp.cmpi .eq (BitVec.ofNat 32 a.val) 0#32) 126#32 (BitVec.ofNat 32 a.val)
      = BitVec.ofNat 32 (if a.val = 0 then 126 else a.val)
    ∧ IntOp.addi (BitVec.ofNat 32 (if a.val = 0 then 126 else a.val)) 1#32
      = BitVec.ofNat 32 ((if a.val = 0 then 126 else a.val) + 1)
    ∧ IntOp.subi 253#32 (BitVec.ofNat 32 (if a.val = 0 then 126 else a.val))
      = BitVec.ofNat 32 (253 - (if a.val = 0 then 126 else a.val)) := by
  decide +kernel

theorem kScale_eq (x : EReal) : kScale x = sc x := by
  obtain ⟨h1, h2, h3⟩ := kE_bits ⟨N' x, by have := N'_le x; omega⟩
  simp only at h1 h2 h3
  unfold kScale kE
  rw [bexp_eq, h1, h2]
  change θ _ = _
  have hn := N'_le x
  rw [θ_eq _ (by split <;> omega) (by split <;> omega)]
  unfold sc bx
  congr 2
  split
  · norm_num
  · push_cast; ring

theorem kInv_eq (x : EReal) : kInv x = iv x := by
  obtain ⟨h1, h2, h3⟩ := kE_bits ⟨N' x, by have := N'_le x; omega⟩
  simp only at h1 h2 h3
  unfold kInv kE
  rw [bexp_eq, h1, h3]
  change θ _ = _
  have hn := N'_le x
  rw [θ_eq _ (by split <;> omega) (by split <;> omega)]
  unfold iv bx
  congr 2
  split <;> (push_cast [Nat.cast_sub (show N' x ≤ 253 by omega)]; try ring)

/-- The power of two the reference compares with at place `k` … -/
def rPow (k : ℕ) : EReal := Ideal.exp2 (FloatOps.sitofp (F := Ideal) .f32 (IntOp.subi (BitVec.ofNat 32 k) 126#32))
/-- … the comparison's outcome as a number … -/
def rInd (x : EReal) (k : ℕ) : EReal :=
  FloatOps.sitofp (F := Ideal) .f32 ((Ideal.cmp .ole (rPow k) x).setWidth 32)
/-- … and the number of places at which it holds. -/
def cnt (x : EReal) : EReal := ∑ k : Fin 252, rInd x k.val

theorem sub_toInt : ∀ k : Fin 252, (IntOp.subi (BitVec.ofNat 32 k.val) 126#32).toInt = (k.val : ℤ) - 126 := by
  decide +kernel

theorem rPow_eq (k : ℕ) (hk : k < 252) : rPow k = θ (k + 1) := by
  rw [θ_eq _ (by omega) (by omega)]
  have h := sub_toInt ⟨k, hk⟩
  simp only at h
  unfold rPow
  change Ideal.exp2 ((((IntOp.subi (BitVec.ofNat 32 k) 126#32).toInt : ℝ) : EReal)) = _
  rw [h, Ideal.exp2_coe]
  congr 1
  change (2 : ℝ) ^ (((k : ℤ) - 126 : ℤ) : ℝ) = _
  rw [Real.rpow_intCast]
  congr 1
  push_cast; ring

theorem rInd_eq (x : EReal) (k : ℕ) (hk : k < 252) : rInd x k = if k < N' x then 1 else 0 := by
  unfold rInd
  change FloatOps.sitofp (F := Ideal) .f32 ((BitVec.ofBool (decide (rPow k ≤ x))).setWidth 32) = _
  rw [rPow_eq k hk]
  have hle := θ_le_iff x (j := k + 1) (by omega) (by omega)
  by_cases h : k + 1 ≤ N x
  · have h' : k < N' x := by unfold N'; omega
    rw [if_pos h']
    simp only [hle.mpr h, decide_true]
    change ((((1#32 : BitVec 32).toInt : ℝ) : EReal)) = 1
    norm_num
  · have h' : ¬ k < N' x := by unfold N'; omega
    have h'' : ¬ θ (k + 1) ≤ x := fun hh => h (hle.mp hh)
    rw [if_neg h']
    simp only [h'', decide_false]
    change ((((0#32 : BitVec 32).toInt : ℝ) : EReal)) = 0
    norm_num

theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

theorem cnt_eq (x : EReal) : cnt x = ((N' x : ℝ) : EReal) := by
  unfold cnt
  have h : ∀ k : Fin 252, rInd x k.val = (((if k.val < N' x then 1 else 0 : ℝ)) : EReal) := by
    intro k; rw [rInd_eq x _ k.isLt]; split <;> rfl
  rw [Finset.sum_congr rfl (fun k _ => h k)]
  rw [← coe_sum]
  congr 1
  rw [Finset.sum_ite, Finset.sum_const_zero, add_zero, Finset.sum_const, nsmul_eq_mul, mul_one]
  congr 1
  have hn := N'_le x
  have := Fin.card_filter_val_lt (n := 252) (m := N' x)
  rw [this]; omega

/-- The reference's exponent: 0 where no power of two is below. -/
def rE (x : EReal) : EReal :=
  Scalar.select (Ideal.cmp .oeq (cnt x) (Ideal.ofBits .f32 0x00000000#32)) (Ideal.ofBits .f32 0x00000000#32)
    (cnt x - Ideal.ofBits .f32 0x42FC0000#32)
/-- The reference's scale … -/
def rScale (x : EReal) : EReal := Ideal.exp2 (rE x)
/-- … and its inverse. -/
def rInv (x : EReal) : EReal := Ideal.exp2 (Ideal.ofBits .f32 0x00000000#32 - rE x)

theorem bits0 : Ideal.ofBits .f32 0x00000000#32 = 0 := by simp [Ideal.ofBits, Ideal.ieee]
theorem bits126 : Ideal.ofBits .f32 0x42FC0000#32 = ((126 : ℝ) : EReal) := by
  simp [Ideal.ofBits, Ideal.ieee, -EReal.coe_mul]; norm_num

theorem rE_eq (x : EReal) : rE x = ((bx x : ℝ) : EReal) := by
  unfold rE bx
  rw [cnt_eq, bits0, bits126]
  change Scalar.select (BitVec.ofBool (decide ((((N' x : ℝ) : EReal)) = 0))) _ _ = _
  by_cases h : N' x = 0
  · rw [if_pos h, h]; simp [Scalar.select]
  · have h' : ¬ (((N' x : ℝ) : EReal)) = 0 := by
      rw [EReal.coe_eq_zero]; exact_mod_cast h
    rw [if_neg h]
    simp only [h', decide_false]
    change ((N' x : ℝ) : EReal) - ((126 : ℝ) : EReal) = _
    rw [← EReal.coe_sub]; push_cast; rfl

theorem rScale_eq (x : EReal) : rScale x = sc x := by
  unfold rScale sc
  rw [rE_eq, Ideal.exp2_coe]
  congr 1
  exact Real.rpow_intCast 2 _

theorem rInv_eq (x : EReal) : rInv x = iv x := by
  unfold rInv iv
  rw [rE_eq, bits0, zero_sub, ← EReal.coe_neg, Ideal.exp2_coe]
  congr 1
  have : (-(bx x : ℝ)) = ((-bx x : ℤ) : ℝ) := by push_cast; rfl
  rw [this]
  exact Real.rpow_intCast 2 _

end Quant
-- ==== Proof.Spec.lean ====
/-
  ONE TOKEN OF THE BLOCK, over the extended reals: the mathematics both programs compute, from the value `y` of the
  depthwise convolution at the token to the five results. `Tok` holds what one token reads.
-/
module

public import proofs.«01_k».proof.Proof.Exponent

@[expose] public section

set_option maxRecDepth 16384
noncomputable section
open Idealize.ShloMosaic
namespace Spec

/-- What one token reads: the convolution's result and bias, the norm's gain and bias, the two weight matrices with
    their channel scales and biases, the layer scale and the residual. -/
@[ext] structure Tok where
  y : Fin 1408 → EReal
  dwb : Fin 1408 → EReal
  g : Fin 1408 → EReal
  b : Fin 1408 → EReal
  w1 : Fin 1408 → Fin 5632 → EReal
  s1 : Fin 5632 → EReal
  b1 : Fin 5632 → EReal
  w2 : Fin 5632 → Fin 1408 → EReal
  s2 : Fin 1408 → EReal
  b2 : Fin 1408 → EReal
  ls : Fin 1408 → EReal
  x : Fin 1408 → EReal

variable (t : Tok)

/-- The biased convolution … -/
def yb (c : Fin 1408) : EReal := t.y c + t.dwb c
/-- … its mean … -/
def mu : EReal := Ideal.div (∑ c, yb t c) (Ideal.ofBits .f32 0x44B00000#32)
/-- … the deviation … -/
def dev (c : Fin 1408) : EReal := yb t c - mu t
/-- … the variance … -/
def var : EReal := Ideal.div (∑ c, dev t c * dev t c) (Ideal.ofBits .f32 0x44B00000#32)
/-- … the inverse deviation … -/
def rs : EReal := Ideal.rsqrt (var t + Ideal.ofBits .f32 0x358637BD#32)
/-- … and the normed value. -/
def z (c : Fin 1408) : EReal := dev t c * rs t * t.g c + t.b c

/-- A block's scaled amplitude: the largest absolute value of its 32 members, over 448. -/
def amp (n : ℕ) (v : Fin (n * 32) → EReal) (b : Fin n) : EReal :=
  Finset.univ.fold max (Ideal.ofBits .f32 0xFF800000#32)
      (fun k : Fin 32 => FloatOps.absf (F := Ideal) (φ := .f32) (v ⟨b.val * 32 + k.val, by omega⟩))
    * Ideal.ofBits .f32 0x3B124925#32
/-- The block a member belongs to. -/
def blk (n : ℕ) (c : Fin (n * 32)) : Fin n := ⟨c.val / 32, by omega⟩
/-- A member's code: scaled down by its block's scale and clipped to ±448. -/
def code (n : ℕ) (v : Fin (n * 32) → EReal) (c : Fin (n * 32)) : EReal :=
  min (Ideal.ofBits .f32 0x43E00000#32) (max (Ideal.ofBits .f32 0xC3E00000#32) (v c * Quant.iv (amp n v (blk n c))))
/-- The code scaled back up. -/
def deq (n : ℕ) (v : Fin (n * 32) → EReal) (c : Fin (n * 32)) : EReal := code n v c * Quant.sc (amp n v (blk n c))

/-- The first product, with its channel scale and bias … -/
def u (f : Fin 5632) : EReal := (∑ c : Fin 1408, deq 44 (z t) c * t.w1 c f) * t.s1 f + t.b1 f
/-- … and the gelu of it. -/
def gelu (u : EReal) : EReal :=
  Ideal.ofBits .f32 0x3F000000#32 * u * (1 + Ideal.erf (u * Ideal.ofBits .f32 0x3F3504F3#32))
def h (f : Fin 5632) : EReal := gelu (u t f)
/-- The second product, with its channel scale and bias, the layer scale and the residual. -/
def out (c : Fin 1408) : EReal :=
  t.x c + t.ls c * ((∑ f : Fin 5632, deq 176 (h t) f * t.w2 f c) * t.s2 c + t.b2 c)
/-- The first quantisation's codes … -/
def q1 (c : Fin 1408) : EReal := code 44 (z t) c
/-- … and block scales; -/
def sc1 (b : Fin 44) : EReal := Quant.sc (amp 44 (z t) b)
/-- the second quantisation's codes … -/
def q2 (f : Fin 5632) : EReal := code 176 (h t) f
/-- … and block scales. -/
def sc2 (b : Fin 176) : EReal := Quant.sc (amp 176 (h t) b)

end Spec
-- ==== Proof.KPay.lean ====
module
public import proofs.«01_k».proof.Proof.Gen.KernelIdeal.Frame
public import proofs.«01_k».proof.Proof.Gen.KernelIdeal.Loops
public import Idealize.ShloMosaic.Lib.Pointwise
public import Idealize.ShloMosaic.Lib.Pipeline.ValueKit
public import proofs.«01_k».proof.Proof.Spec

@[expose] public section

set_option maxRecDepth 16384
noncomputable section
open Idealize.ShloMosaic Idealize.ShloMosaic.TcCoe Idealize.SL.Sem
namespace Cert.KernelIdeal.V
open Cert.KernelIdeal Cert.KernelIdeal.Gen

/-- The four [128,128] column groups of a channel slab of `y`, side by side. -/
def ycat (v43 v47 v51 v55 : Vec Ideal S16x1x8x128 .f32) : FVec Ideal S128x512 .f32 :=
  concatenate S128x512 1
    [⟨S128x128, shapeCast S128x128 (shapeCast S16x8x128 v43 shapeCasts_S16x1x8x128_S16x8x128) shapeCasts_S16x8x128_S128x128⟩,
     ⟨S128x128, shapeCast S128x128 (shapeCast S16x8x128 v47 shapeCasts_S16x1x8x128_S16x8x128) shapeCasts_S16x8x128_S128x128⟩,
     ⟨S128x128, shapeCast S128x128 (shapeCast S16x8x128 v51 shapeCasts_S16x1x8x128_S16x8x128) shapeCasts_S16x8x128_S128x128⟩,
     ⟨S128x128, shapeCast S128x128 (shapeCast S16x8x128 v55 shapeCasts_S16x1x8x128_S16x8x128) shapeCasts_S16x8x128_S128x128⟩]
    concatenates_S128x128_S128x128_S128x128_S128x128_S128x512_d1

/-- A [128,128] slab of channel parameters, repeated over the four column groups. -/
def pcat (v : Vec Ideal S1x128x128 .f32) : FVec Ideal S128x512 .f32 :=
  concatenate S128x512 1
    [⟨S128x128, shapeCast S128x128 v shapeCasts_S1x128x128_S128x128⟩,
     ⟨S128x128, shapeCast S128x128 v shapeCasts_S1x128x128_S128x128⟩,
     ⟨S128x128, shapeCast S128x128 v shapeCasts_S1x128x128_S128x128⟩,
     ⟨S128x128, shapeCast S128x128 v shapeCasts_S1x128x128_S128x128⟩]
    concatenates_S128x128_S128x128_S128x128_S128x128_S128x512_d1

/-- A [512,128] slab of channel parameters, repeated over the four column groups. -/
def fcat (v : Vec Ideal S1x512x128 .f32) : FVec Ideal S512x512 .f32 :=
  concatenate S512x512 1
    [⟨S512x128, shapeCast S512x128 v shapeCasts_S1x512x128_S512x128⟩,
     ⟨S512x128, shapeCast S512x128 v shapeCasts_S1x512x128_S512x128⟩,
     ⟨S512x128, shapeCast S512x128 v shapeCasts_S1x512x128_S512x128⟩,
     ⟨S512x128, shapeCast S512x128 v shapeCasts_S1x512x128_S512x128⟩]
    concatenates_S512x128_S512x128_S512x128_S512x128_S512x512_d1

/-- A repeated slab reads the slab at the column's lane. -/
theorem pcat_at (v : Vec Ideal S1x128x128 .f32) (a : Fin 128) (p : Fin 512) :
    pcat v (ix2 a p) = v (ix3 0 a ⟨p.val % 128, by omega⟩) := by
  pointwise [pcat]
  split_ifs <;> blk_ext

theorem fcat_at (v : Vec Ideal S1x512x128 .f32) (a : Fin 512) (p : Fin 512) :
    fcat v (ix2 a p) = v (ix3 0 a ⟨p.val % 128, by omega⟩) := by
  pointwise [fcat]
  split_ifs <;> blk_ext

/-- The channel slab of `y` at a channel and a column. -/
theorem ycat_at (Y : Fin 16 → Fin 2 → Fin 16 → Fin 128 → EReal) (v43 v47 v51 v55 : Vec Ideal S16x1x8x128 .f32)
    (h43 : ∀ g r w, v43 (ix4 g 0 r w) = Y g 0 ⟨r.val, by omega⟩ w)
    (h47 : ∀ g r w, v47 (ix4 g 0 r w) = Y g 1 ⟨r.val, by omega⟩ w)
    (h51 : ∀ g r w, v51 (ix4 g 0 r w) = Y g 0 ⟨8 + r.val, by omega⟩ w)
    (h55 : ∀ g r w, v55 (ix4 g 0 r w) = Y g 1 ⟨8 + r.val, by omega⟩ w)
    (a : Fin 128) (p : Fin 512) :
    ycat v43 v47 v51 v55 (ix2 a p)
      = Y ⟨a.val / 8, by omega⟩ ⟨p.val / 128 % 2, by omega⟩ ⟨p.val / 256 * 8 + a.val % 8, by omega⟩ ⟨p.val % 128, by omega⟩ := by
  pointwise [ycat, h43, h47, h51, h55]
  split_ifs <;> (congr 1 <;> first | (apply Fin.ext; simp only []; omega))

/-- One trip of the mean's accumulation. -/
theorem pay32_at (acc : FVec Ideal S8x512 .f32) (v43 v47 v51 v55 : Vec Ideal S16x1x8x128 .f32) (v62 : Vec Ideal S1x128x128 .f32)
    (r : Fin 8) (p : Fin 512) :
    k0_pay32 acc v43 v47 v51 v55 v62 (ix2 r p)
      = acc (ix2 r p) + ∑ g : Fin 16, (ycat v43 v47 v51 v55 (ix2 ⟨g.val * 8 + r.val, by omega⟩ p)
          + pcat v62 (ix2 ⟨g.val * 8 + r.val, by omega⟩ p)) := by
  change addf acc (multiReduction .add [0] S8x512 (shapeCast S16x8x512 (addf (ycat v43 v47 v51 v55) (pcat v62))
    shapeCasts_S128x512_S16x8x512) 0x00000000#32 reduces_S16x8x512_S8x512 (.inl rfl) rfl) (ix2 r p) = _
  pointwise []

/-- The mean. -/
theorem pay33_at (v2 : FVec Ideal S8x512 .f32) (p : Fin 512) :
    k0_pay33 v2 (ix2 0 p) = Ideal.div (∑ r : Fin 8, v2 (ix2 r p)) (Ideal.ofBits .f32 0x44B00000#32) := by
  pointwise [k0_pay33]

/-- One trip of the variance's accumulation. -/
theorem pay34_at (v2 acc : FVec Ideal S8x512 .f32) (v43 v47 v51 v55 : Vec Ideal S16x1x8x128 .f32) (v62 : Vec Ideal S1x128x128 .f32)
    (r : Fin 8) (p : Fin 512) :
    k0_pay34 v2 acc v43 v47 v51 v55 v62 (ix2 r p)
      = acc (ix2 r p) + ∑ g : Fin 16,
          ((ycat v43 v47 v51 v55 (ix2 ⟨g.val * 8 + r.val, by omega⟩ p) + pcat v62 (ix2 ⟨g.val * 8 + r.val, by omega⟩ p))
              - k0_pay33 v2 (ix2 0 p))
            * ((ycat v43 v47 v51 v55 (ix2 ⟨g.val * 8 + r.val, by omega⟩ p) + pcat v62 (ix2 ⟨g.val * 8 + r.val, by omega⟩ p))
              - k0_pay33 v2 (ix2 0 p)) := by
  change addf acc (multiReduction .add [0] S8x512 (shapeCast S16x8x512
    (mulf (subf (addf (ycat v43 v47 v51 v55) (pcat v62)) (broadcastTo S128x512 (k0_pay33 v2) broadcasts_S1x512_S128x512))
      (subf (addf (ycat v43 v47 v51 v55) (pcat v62)) (broadcastTo S128x512 (k0_pay33 v2) broadcasts_S1x512_S128x512)))
    shapeCasts_S128x512_S16x8x512) 0x00000000#32 reduces_S16x8x512_S8x512 (.inl rfl) rfl) (ix2 r p) = _
  pointwise []

/-- The inverse deviation. -/
theorem pay35_at (v8 : FVec Ideal S8x512 .f32) (p : Fin 512) :
    k0_pay35 v8 (ix2 0 p)
      = Ideal.rsqrt (Ideal.div (∑ r : Fin 8, v8 (ix2 r p)) (Ideal.ofBits .f32 0x44B00000#32) + Ideal.ofBits .f32 0x358637BD#32) := by
  pointwise [k0_pay35]

/-- The normed value, before its bias. -/
theorem pay6_at (v6 v15 : FVec Ideal S1x512 .f32) (v43 v47 v51 v55 : Vec Ideal S16x1x8x128 .f32) (v62 v73 : Vec Ideal S1x128x128 .f32)
    (a : Fin 128) (p : Fin 512) :
    k0_pay6 v6 v15 v43 v47 v51 v55 v62 v73 (ix2 a p)
      = ((ycat v43 v47 v51 v55 (ix2 a p) + pcat v62 (ix2 a p)) - v6 (ix2 0 p)) * v15 (ix2 0 p) * pcat v73 (ix2 a p) := by
  change mulf (mulf (subf (addf (ycat v43 v47 v51 v55) (pcat v62)) (broadcastTo S128x512 v6 broadcasts_S1x512_S128x512))
      (broadcastTo S128x512 v15 broadcasts_S1x512_S128x512)) (pcat v73) (ix2 a p) = _
  pointwise []

/-- The normed value, in blocks of 32. -/
theorem pay7_at (v76 : FVec Ideal S128x512 .f32) (v80 : Vec Ideal S1x128x128 .f32) (i : Fin 4) (k : Fin 32) (p : Fin 512) :
    k0_pay7 v76 v80 (ix3 i k p)
      = v76 (ix2 ⟨i.val * 32 + k.val, by omega⟩ p) + pcat v80 (ix2 ⟨i.val * 32 + k.val, by omega⟩ p) := by
  change shapeCast S4x32x512 (addf v76 (pcat v80)) shapeCasts_S128x512_S4x32x512 (ix3 i k p) = _
  pointwise []

/-- A block's scaled amplitude. -/
theorem pay8_at (v76 : FVec Ideal S128x512 .f32) (v80 : Vec Ideal S1x128x128 .f32) (i : Fin 4) (p : Fin 512) :
    k0_pay8 v76 v80 (ix3 i 0 p)
      = Finset.univ.fold max (Ideal.ofBits .f32 0xFF800000#32)
          (fun k : Fin 32 => FloatOps.absf (F := Ideal) (φ := .f32) (k0_pay7 v76 v80 (ix3 i k p)))
        * Ideal.ofBits .f32 0x3B124925#32 := by
  pointwise [k0_pay8]

/-- One step of the search on a whole vector … -/
def stepV {s : Shape} (r : FVec Ideal s .f32) (e : IVec s 32) (c : BitVec 32) : IVec s 32 :=
  select (cmpf .oge r (bitcastToFloat .f32 (shli (addi e (broadcast s c)) (broadcast s 23#32)))) (addi e (broadcast s c)) e
/-- … the whole search … -/
def bexpV {s : Shape} (r : FVec Ideal s .f32) : IVec s 32 :=
  minsi (stepV r (stepV r (stepV r (stepV r (stepV r (stepV r (stepV r (stepV r (broadcast s 0#32) 128#32) 64#32) 32#32) 16#32)
    8#32) 4#32) 2#32) 1#32) (broadcast s 252#32)
/-- … and the exponent taken from it. -/
def kEV {s : Shape} (r : FVec Ideal s .f32) : IVec s 32 :=
  select (cmpi .eq (bexpV r) (broadcast s 0#32)) (broadcast s 126#32) (bexpV r)
theorem stepV_at {s : Shape} (r : FVec Ideal s .f32) (e : IVec s 32) (c : BitVec 32) (j : s.Idx) :
    stepV r e c j = Quant.step (r j) (e j) c := rfl
theorem bexpV_at {s : Shape} (r : FVec Ideal s .f32) (j : s.Idx) : bexpV r j = Quant.bexp (r j) := by
  change IntOp.minsi (stepV _ _ _ j) 252#32 = _
  simp only [stepV_at]
  rfl
theorem kEV_at {s : Shape} (r : FVec Ideal s .f32) (j : s.Idx) : kEV r j = Quant.kE (r j) := by
  unfold Quant.kE
  rw [← bexpV_at]
  rfl

/-- The exponent the search finds. -/
theorem pay12_at (v76 : FVec Ideal S128x512 .f32) (v80 : Vec Ideal S1x128x128 .f32) (j : S4x1x512.Idx) :
    k0_pay12 (k0_pay8 v76 v80) (k0_pay9 v76 v80) (k0_pay10 v76 v80) (k0_pay11 v76 v80) j = Quant.kE (k0_pay8 v76 v80 j) := by
  rw [← kEV_at]
  unfold k0_pay12 k0_pay11 k0_pay10 k0_pay9
  generalize k0_pay8 v76 v80 = r
  rfl

theorem pay13_at (v76 : FVec Ideal S128x512 .f32) (v80 : Vec Ideal S1x128x128 .f32) (j : S4x1x512.Idx) :
    k0_pay13 (k0_pay8 v76 v80) (k0_pay9 v76 v80) (k0_pay10 v76 v80) (k0_pay11 v76 v80) j = Quant.sc (k0_pay8 v76 v80 j) := by
  rw [← Quant.kScale_eq]
  unfold Quant.kScale
  rw [← pay12_at v76 v80 j]
  unfold k0_pay13
  rfl

theorem pay14_at (v76 : FVec Ideal S128x512 .f32) (v80 : Vec Ideal S1x128x128 .f32) (i : Fin 4) (k : Fin 32) (p : Fin 512) :
    k0_pay14 (k0_pay7 v76 v80) (k0_pay8 v76 v80) (k0_pay9 v76 v80) (k0_pay10 v76 v80) (k0_pay11 v76 v80) (ix3 i k p)
      = min (Ideal.ofBits .f32 0x43E00000#32) (max (Ideal.ofBits .f32 0xC3E00000#32)
          (k0_pay7 v76 v80 (ix3 i k p) * Quant.iv (k0_pay8 v76 v80 (ix3 i 0 p)))) := by
  rw [← Quant.kInv_eq]
  unfold Quant.kInv
  rw [← pay12_at v76 v80 (ix3 i 0 p)]
  pointwise [k0_pay14]

/-- The block scales of a channel slab … -/
def q157 (v76 : FVec Ideal S128x512 .f32) (v80 : Vec Ideal S1x128x128 .f32) : FVec Ideal S4x1x512 .f32 :=
  k0_pay13 (k0_pay8 v76 v80) (k0_pay9 v76 v80) (k0_pay10 v76 v80) (k0_pay11 v76 v80)
/-- … and its codes. -/
def q169 (v76 : FVec Ideal S128x512 .f32) (v80 : Vec Ideal S1x128x128 .f32) : FVec Ideal S4x32x512 .fp8e4m3 :=
  k0_pay14 (k0_pay7 v76 v80) (k0_pay8 v76 v80) (k0_pay9 v76 v80) (k0_pay10 v76 v80) (k0_pay11 v76 v80)

theorem lt1408 (k : Fin 11) (a : Fin 128) : k.val * 128 + a.val < 1408 := by omega
theorem lt5632 (k : Fin 11) (i : Fin 16) (x : Fin 32) : k.val * 512 + (i.val * 32 + x.val) < 5632 := by omega

section Quant1
variable (k : Fin 11) (Z : Fin 1408 → Fin 512 → EReal) (v76 : FVec Ideal S128x512 .f32) (v80 : Vec Ideal S1x128x128 .f32)
  (hz : ∀ (a : Fin 128) (p : Fin 512), v76 (ix2 a p) + pcat v80 (ix2 a p) = Z ⟨k.val * 128 + a.val, lt1408 k a⟩ p)
include hz

theorem q1_amp (i : Fin 4) (p : Fin 512) :
    k0_pay8 v76 v80 (ix3 i 0 p) = Spec.amp 44 (fun c => Z c p) ⟨k.val * 4 + i.val, by omega⟩ := by
  rw [pay8_at]
  unfold Spec.amp
  congr 2
  funext x
  rw [pay7_at, hz]
  congr 3
  simp only []; omega

theorem q157_at (i : Fin 4) (p : Fin 512) :
    q157 v76 v80 (ix3 i 0 p) = Quant.sc (Spec.amp 44 (fun c => Z c p) ⟨k.val * 4 + i.val, by omega⟩) := by
  unfold q157
  rw [pay13_at, q1_amp k Z v76 v80 hz]

theorem q169_at (i : Fin 4) (x : Fin 32) (p : Fin 512) :
    q169 v76 v80 (ix3 i x p) = Spec.code 44 (fun c => Z c p) ⟨k.val * 128 + (i.val * 32 + x.val), by omega⟩ := by
  unfold q169
  rw [pay14_at, pay7_at, q1_amp k Z v76 v80 hz, hz]
  unfold Spec.code
  have hb : Spec.blk 44 ⟨k.val * 128 + (i.val * 32 + x.val), by omega⟩ = ⟨k.val * 4 + i.val, by omega⟩ := by
    unfold Spec.blk; apply Fin.ext; simp only []; omega
  rw [hb]

theorem pay37_at (a : Fin 128) (p : Fin 512) :
    k0_pay37 (q157 v76 v80) (q169 v76 v80) (ix2 a p)
      = Spec.deq 44 (fun c => Z c p) ⟨k.val * 128 + a.val, by omega⟩ := by
  have h : k0_pay37 (q157 v76 v80) (q169 v76 v80) (ix2 a p)
      = q169 v76 v80 (ix3 ⟨a.val / 32, by omega⟩ ⟨a.val % 32, by omega⟩ p) * q157 v76 v80 (ix3 ⟨a.val / 32, by omega⟩ 0 p) := by
    pointwise [k0_pay37, k0_pay36]
  rw [h, q169_at k Z v76 v80 hz, q157_at k Z v76 v80 hz]
  unfold Spec.deq
  have hc : (⟨k.val * 128 + (a.val / 32 * 32 + a.val % 32), by omega⟩ : Fin (44 * 32)) = ⟨k.val * 128 + a.val, by omega⟩ := by
    apply Fin.ext; simp only []; omega
  have hb : Spec.blk 44 ⟨k.val * 128 + a.val, by omega⟩ = ⟨k.val * 4 + a.val / 32, by omega⟩ := by
    unfold Spec.blk; apply Fin.ext; simp only []; omega
  rw [hb, ← hc]

theorem pay38_at (i : Fin 4) (p : Fin 512) :
    k0_pay38 (q157 v76 v80) (ix3 0 i p) = Quant.sc (Spec.amp 44 (fun c => Z c p) ⟨k.val * 4 + i.val, by omega⟩) := by
  rw [← q157_at k Z v76 v80 hz]
  pointwise [k0_pay38]

theorem pay39_at (p : Fin 512) (a : Fin 128) :
    k0_pay39 (q169 v76 v80) (ix2 p a) = Spec.code 44 (fun c => Z c p) ⟨k.val * 128 + a.val, by omega⟩ := by
  have h : k0_pay39 (q169 v76 v80) (ix2 p a) = q169 v76 v80 (ix3 ⟨a.val / 32, by omega⟩ ⟨a.val % 32, by omega⟩ p) := by
    pointwise [k0_pay39, k0_pay36]
  rw [h, q169_at k Z v76 v80 hz]
  congr 2
  simp only []; omega

theorem pay40_at (r : Fin 256) (a : Fin 128) :
    k0_pay40 (q169 v76 v80) (ix4 0 0 r a)
      = Spec.code 44 (fun c => Z c ⟨r.val, by omega⟩) ⟨k.val * 128 + a.val, by omega⟩ := by
  rw [← pay39_at k Z v76 v80 hz]
  pointwise [k0_pay40]

theorem pay41_at (r : Fin 256) (a : Fin 128) :
    k0_pay41 (q169 v76 v80) (ix4 0 0 r a)
      = Spec.code 44 (fun c => Z c ⟨256 + r.val, by omega⟩) ⟨k.val * 128 + a.val, by omega⟩ := by
  rw [← pay39_at k Z v76 v80 hz]
  pointwise [k0_pay41]

end Quant1

/-! ## The second quantisation -/

/-- The gelu of the first product, in blocks of 32. -/
theorem pay15_at (v44 : Vec Ideal S512x1408 .fp8e4m3) (v47 : Vec Ideal S1408x512 .bf16) (v52 v59 : Vec Ideal S1x512x128 .f32)
    (U : Fin 512 → Fin 512 → EReal)
    (hU : ∀ (a p : Fin 512), (∑ c : Fin 1408, v44 (ix2 a c) * v47 (ix2 c p)) * fcat v52 (ix2 a p) + fcat v59 (ix2 a p) = U a p)
    (i : Fin 16) (x : Fin 32) (p : Fin 512) :
    k0_pay15 v44 v47 v52 v59 (ix3 i x p)
      = Spec.gelu (U ⟨i.val * 32 + x.val, by omega⟩ p) := by
  change shapeCast S16x32x512
    (mulf (mulf (broadcast S512x512 (Scalar.ofBits .f32 0x3F000000#32))
        (addf (mulf (matmul dot_S512x1408_S1408x512_S512x512_1_0_0_1_n_n none
          (extf .bf16 (shapeCast S512x1408 v44 shapeCasts_S512x1408_S512x1408) bitsLt_fp8e4m3_bf16) v47
          (constant S512x512 .f32 0x00000000#32)) (fcat v52)) (fcat v59)))
      (addf (broadcast S512x512 (Scalar.ofBits .f32 0x3F800000#32))
        (erf (mulf (addf (mulf (matmul dot_S512x1408_S1408x512_S512x512_1_0_0_1_n_n none
          (extf .bf16 (shapeCast S512x1408 v44 shapeCasts_S512x1408_S512x1408) bitsLt_fp8e4m3_bf16) v47
          (constant S512x512 .f32 0x00000000#32)) (fcat v52)) (fcat v59))
          (broadcast S512x512 (Scalar.ofBits .f32 0x3F3504F3#32))))))
    shapeCasts_S512x512_S16x32x512 (ix3 i x p) = _
  rw [← hU]
  pointwise []
  rfl

theorem pay16_at (v44 : Vec Ideal S512x1408 .fp8e4m3) (v47 : Vec Ideal S1408x512 .bf16) (v52 v59 : Vec Ideal S1x512x128 .f32)
    (i : Fin 16) (p : Fin 512) :
    k0_pay16 v44 v47 v52 v59 (ix3 i 0 p)
      = Finset.univ.fold max (Ideal.ofBits .f32 0xFF800000#32)
          (fun k : Fin 32 => FloatOps.absf (F := Ideal) (φ := .f32) (k0_pay15 v44 v47 v52 v59 (ix3 i k p)))
        * Ideal.ofBits .f32 0x3B124925#32 := by
  pointwise [k0_pay16]

/-- The exponent the search finds. -/
theorem pay22_at (r : FVec Ideal S16x1x512 .f32) (j : S16x1x512.Idx) :
    k0_pay22 r (k0_pay20 r k0_pay17 k0_pay18 k0_pay19) k0_pay21 j = Quant.kE (r j) := by
  rw [← kEV_at]
  unfold k0_pay22 k0_pay21 k0_pay20 k0_pay19 k0_pay18 k0_pay17
  rfl

theorem pay23_at (r : FVec Ideal S16x1x512 .f32) (j : S16x1x512.Idx) :
    k0_pay23 r (k0_pay20 r k0_pay17 k0_pay18 k0_pay19) k0_pay21 j = Quant.sc (r j) := by
  rw [← Quant.kScale_eq]
  unfold Quant.kScale
  rw [← pay22_at r j]
  unfold k0_pay23
  rfl

theorem pay24_at (v71 : FVec Ideal S16x32x512 .f32) (r : FVec Ideal S16x1x512 .f32) (i : Fin 16) (k : Fin 32) (p : Fin 512) :
    k0_pay24 v71 r (k0_pay20 r k0_pay17 k0_pay18 k0_pay19) k0_pay21 (ix3 i k p)
      = min (Ideal.ofBits .f32 0x43E00000#32) (max (Ideal.ofBits .f32 0xC3E00000#32)
          (v71 (ix3 i k p) * Quant.iv (r (ix3 i 0 p)))) := by
  rw [← Quant.kInv_eq]
  unfold Quant.kInv
  rw [← pay22_at r (ix3 i 0 p)]
  pointwise [k0_pay24]

section Quant2
variable (k : Fin 11) (H : Fin 5632 → Fin 512 → EReal) (v71 : FVec Ideal S16x32x512 .f32) (r : FVec Ideal S16x1x512 .f32)
  (hr : ∀ (i : Fin 16) (p : Fin 512), r (ix3 i 0 p)
      = Finset.univ.fold max (Ideal.ofBits .f32 0xFF800000#32)
          (fun k : Fin 32 => FloatOps.absf (F := Ideal) (φ := .f32) (v71 (ix3 i k p)))
        * Ideal.ofBits .f32 0x3B124925#32)
  (hh : ∀ (i : Fin 16) (x : Fin 32) (p : Fin 512), v71 (ix3 i x p) = H ⟨k.val * 512 + (i.val * 32 + x.val), lt5632 k i x⟩ p)

/-- The second quantisation's intermediate: the exponent search's first six steps. -/
abbrev v126 (r : FVec Ideal S16x1x512 .f32) : IVec S16x1x512 32 := k0_pay20 r k0_pay17 k0_pay18 k0_pay19

include hr hh

theorem q2_amp (i : Fin 16) (p : Fin 512) :
    r (ix3 i 0 p) = Spec.amp 176 (fun c => H c p) ⟨k.val * 16 + i.val, by omega⟩ := by
  rw [hr]
  unfold Spec.amp
  congr 2
  funext x
  rw [hh]
  congr 3
  simp only []; omega

theorem q2_scale (i : Fin 16) (p : Fin 512) :
    k0_pay23 r (v126 r) k0_pay21 (ix3 i 0 p) = Quant.sc (Spec.amp 176 (fun c => H c p) ⟨k.val * 16 + i.val, by omega⟩) := by
  rw [pay23_at, q2_amp k H v71 r hr hh]

theorem q2_code (i : Fin 16) (x : Fin 32) (p : Fin 512) :
    k0_pay24 v71 r (v126 r) k0_pay21 (ix3 i x p)
      = Spec.code 176 (fun c => H c p) ⟨k.val * 512 + (i.val * 32 + x.val), by omega⟩ := by
  rw [pay24_at, q2_amp k H v71 r hr hh, hh]
  unfold Spec.code
  have hb : Spec.blk 176 ⟨k.val * 512 + (i.val * 32 + x.val), by omega⟩ = ⟨k.val * 16 + i.val, by omega⟩ := by
    unfold Spec.blk; apply Fin.ext; simp only []; omega
  rw [hb]

theorem pay26_at (a : Fin 512) (p : Fin 512) :
    k0_pay26 v71 r (v126 r) k0_pay21 (ix2 a p)
      = Spec.deq 176 (fun c => H c p) ⟨k.val * 512 + a.val, by omega⟩ := by
  have h : k0_pay26 v71 r (v126 r) k0_pay21 (ix2 a p)
      = k0_pay24 v71 r (v126 r) k0_pay21 (ix3 ⟨a.val / 32, by omega⟩ ⟨a.val % 32, by omega⟩ p)
        * k0_pay23 r (v126 r) k0_pay21 (ix3 ⟨a.val / 32, by omega⟩ 0 p) := by
    pointwise [k0_pay26]
  rw [h, q2_code k H v71 r hr hh, q2_scale k H v71 r hr hh]
  unfold Spec.deq
  have hc : (⟨k.val * 512 + (a.val / 32 * 32 + a.val % 32), by omega⟩ : Fin (176 * 32)) = ⟨k.val * 512 + a.val, by omega⟩ := by
    apply Fin.ext; simp only []; omega
  have hb : Spec.blk 176 ⟨k.val * 512 + a.val, by omega⟩ = ⟨k.val * 16 + a.val / 32, by omega⟩ := by
    unfold Spec.blk; apply Fin.ext; simp only []; omega
  rw [hb, ← hc]

theorem pay27_at (i : Fin 16) (p : Fin 512) :
    k0_pay27 r (v126 r) k0_pay21 (ix3 0 i p) = Quant.sc (Spec.amp 176 (fun c => H c p) ⟨k.val * 16 + i.val, by omega⟩) := by
  rw [← q2_scale k H v71 r hr hh]
  pointwise [k0_pay27]

theorem pay42_at (p : Fin 512) (a : Fin 512) :
    k0_pay42 (k0_pay25 v71 r (v126 r) k0_pay21) (ix2 p a) = Spec.code 176 (fun c => H c p) ⟨k.val * 512 + a.val, by omega⟩ := by
  have h : k0_pay42 (k0_pay25 v71 r (v126 r) k0_pay21) (ix2 p a)
      = k0_pay24 v71 r (v126 r) k0_pay21 (ix3 ⟨a.val / 32, by omega⟩ ⟨a.val % 32, by omega⟩ p) := by
    pointwise [k0_pay42, k0_pay25]
  rw [h, q2_code k H v71 r hr hh]
  congr 2
  simp only []; omega

theorem pay43_at (j : Fin 256) (a : Fin 512) :
    k0_pay43 (k0_pay25 v71 r (v126 r) k0_pay21) (ix4 0 0 j a)
      = Spec.code 176 (fun c => H c ⟨j.val, by omega⟩) ⟨k.val * 512 + a.val, by omega⟩ := by
  rw [← pay42_at k H v71 r hr hh]
  pointwise [k0_pay43]

theorem pay44_at (j : Fin 256) (a : Fin 512) :
    k0_pay44 (k0_pay25 v71 r (v126 r) k0_pay21) (ix4 0 0 j a)
      = Spec.code 176 (fun c => H c ⟨256 + j.val, by omega⟩) ⟨k.val * 512 + a.val, by omega⟩ := by
  rw [← pay42_at k H v71 r hr hh]
  pointwise [k0_pay44]

end Quant2

/-! ## The second product and the scales' layout -/

theorem pay28_at (v44 : Vec Ideal S128x5632 .fp8e4m3) (v47 : Vec Ideal S5632x512 .bf16) (v51 v56 v61 : Vec Ideal S1x1x128 .f32)
    (p : Fin 512) (a : Fin 128) :
    k0_pay28 v44 v47 v51 v56 v61 (ix2 p a)
      = v61 (ix3 0 0 a) * ((∑ f : Fin 5632, v44 (ix2 a f) * v47 (ix2 f p)) * v51 (ix3 0 0 a) + v56 (ix3 0 0 a)) := by
  pointwise [k0_pay28]

theorem pay29_at (v44 : Vec Ideal S128x5632 .fp8e4m3) (v47 : Vec Ideal S5632x512 .bf16) (v51 v56 v61 : Vec Ideal S1x1x128 .f32)
    (v66 : Vec Ideal S1x1x256x128 .bf16) (r : Fin 256) (a : Fin 128) :
    k0_pay29 v44 v47 v51 v56 v61 v66 (ix4 0 0 r a)
      = v66 (ix4 0 0 r a) + k0_pay28 v44 v47 v51 v56 v61 (ix2 ⟨r.val, by omega⟩ a) := by
  pointwise [k0_pay29]

theorem pay45_at (v64 : FVec Ideal S512x128 .f32) (v77 : Vec Ideal S1x1x256x128 .bf16) (r : Fin 256) (a : Fin 128) :
    k0_pay45 v64 (k0_pay30 v77) (ix4 0 0 r a) = v77 (ix4 0 0 r a) + v64 (ix2 ⟨256 + r.val, by omega⟩ a) := by
  pointwise [k0_pay45, k0_pay30]

theorem s1_lo (v19 : Vec Ideal S11x4x512 .f32) (r : Fin 256) (b : Fin 44) :
    k0_pay1 (k0_pay47 v19) (ix4 0 0 r b) = v19 (ix3 ⟨b.val / 4, by omega⟩ ⟨b.val % 4, by omega⟩ ⟨r.val, by omega⟩) := by
  pointwise [k0_pay1, k0_pay47, k0_pay46]

theorem s1_hi (v19 : Vec Ideal S11x4x512 .f32) (r : Fin 256) (b : Fin 44) :
    k0_pay2 (k0_pay46 v19) (ix4 0 0 r b) = v19 (ix3 ⟨b.val / 4, by omega⟩ ⟨b.val % 4, by omega⟩ ⟨256 + r.val, by omega⟩) := by
  pointwise [k0_pay2, k0_pay46]

theorem s2_lo (v30 : Vec Ideal S11x16x512 .f32) (r : Fin 256) (b : Fin 176) :
    k0_pay4 v30 (ix4 0 0 r b) = v30 (ix3 ⟨b.val / 16, by omega⟩ ⟨b.val % 16, by omega⟩ ⟨r.val, by omega⟩) := by
  pointwise [k0_pay4, k0_pay3]

theorem s2_hi (v30 : Vec Ideal S11x16x512 .f32) (r : Fin 256) (b : Fin 176) :
    k0_pay5 v30 (ix4 0 0 r b) = v30 (ix3 ⟨b.val / 16, by omega⟩ ⟨b.val % 16, by omega⟩ ⟨256 + r.val, by omega⟩) := by
  pointwise [k0_pay5, k0_pay3]

end Cert.KernelIdeal.V
-- ==== Proof.KStats.lean ====
/-
  THE KERNEL'S STATISTICS: the mean and the inverse deviation of a column, from the two accumulating loops.
-/
module
public import proofs.«01_k».proof.Proof.KPay

@[expose] public section

set_option maxRecDepth 16384
set_option maxHeartbeats 2000000
noncomputable section
open Idealize.ShloMosaic Idealize.ShloMosaic.TcCoe Idealize.SL.Sem Idealize.ShloMosaic.Tactic
namespace Cert.KernelIdeal.V
open Cert.KernelIdeal Cert.KernelIdeal.Gen

/-- The token a column of a block is: column `p` of the 512 holds row `p % 256` of image group `p / 256`. -/
def tokK (x1 : Vec Ideal S176x2x16x128 .f32) (x2 : Vec Ideal S2x1x256x1408 .bf16) (x3 : Vec Ideal S5632x1408 .fp8e4m3)
    (x4 : Vec Ideal S1408x5632 .fp8e4m3) (x5 : Vec Ideal S3x1408x128 .f32) (x6 : Vec Ideal S2x5632x128 .f32)
    (x7 : Vec Ideal S3x1x1408 .f32) (p : Fin 512) : Spec.Tok where
  y c := x1 (ix4 ⟨c.val / 8, by omega⟩ ⟨p.val / 128 % 2, by omega⟩ ⟨p.val / 256 * 8 + c.val % 8, by omega⟩ ⟨p.val % 128, by omega⟩)
  dwb c := x5 (ix3 0 c ⟨p.val % 128, by omega⟩)
  g c := x5 (ix3 1 c ⟨p.val % 128, by omega⟩)
  b c := x5 (ix3 2 c ⟨p.val % 128, by omega⟩)
  w1 c f := x3 (ix2 f c)
  s1 f := x6 (ix3 0 f ⟨p.val % 128, by omega⟩)
  b1 f := x6 (ix3 1 f ⟨p.val % 128, by omega⟩)
  w2 f c := x4 (ix2 c f)
  s2 c := x7 (ix3 0 0 c)
  b2 c := x7 (ix3 1 0 c)
  ls c := x7 (ix3 2 0 c)
  x c := x2 (ix4 ⟨p.val / 256, by omega⟩ 0 ⟨p.val % 256, by omega⟩ c)

theorem trips1 : k0_t1_loop.trips = 11 := by decide +kernel
theorem trips2 : k0_t2_loop.trips = 11 := by decide +kernel
theorem trips3 : k0_t3_loop.trips = 11 := by decide +kernel
theorem trips4 : k0_t4_loop.trips = 11 := by decide +kernel
theorem trips5 : k0_t5_loop.trips = 11 := by decide +kernel

theorem off16 (k : ℕ) (hk : k < 11) : BitVec.toNat (Scalar.indexCast (Scalar.muli (Scf.iv 0#32 1#32 k) 16#32)) = k * 16 := by
  interval_cases k <;> rfl
theorem off128 (k : ℕ) (hk : k < 11) : BitVec.toNat (Scalar.indexCast (Scalar.muli (Scf.iv 0#32 1#32 k) 128#32)) = k * 128 := by
  interval_cases k <;> rfl
theorem off512 (k : ℕ) (hk : k < 11) : BitVec.toNat (Scalar.indexCast (Scalar.muli (Scf.iv 0#32 1#32 k) 512#32)) = k * 512 := by
  interval_cases k <;> rfl
theorem off1 (k : ℕ) (hk : k < 11) : BitVec.toNat (Scalar.indexCast (Scf.iv 0#32 1#32 k)) = k := by
  interval_cases k <;> rfl

theorem ld_y (x1 : Vec Ideal S176x2x16x128 .f32) (o0 o1 o2 : ℕ) (inb) (a : Fin 16) (r : Fin 8) (w : Fin 128)
    (h0 : o0 + a.val < 176) (h1 : o1 < 2) (h2 : o2 + r.val < 16) :
    View.ld x1 (Rect.unit ![o0, o1, o2, 0] ![16, 1, 8, 128] inb) (ix4 a 0 r w) = x1 (ix4 ⟨o0 + a.val, h0⟩ ⟨o1, h1⟩ ⟨o2 + r.val, h2⟩ w) := by
  refine View.ld_unit_apply_of _ _ _ _ _ _ fun d => ?_
  fin_cases d <;> simp [ix4]

theorem ld_p (x5 : Vec Ideal S3x1408x128 .f32) (o0 o1 : ℕ) (inb) (a : Fin 128) (w : Fin 128)
    (h0 : o0 < 3) (h1 : o1 + a.val < 1408) :
    View.ld x5 (Rect.unit ![o0, o1, 0] ![1, 128, 128] inb) (ix3 0 a w) = x5 (ix3 ⟨o0, h0⟩ ⟨o1 + a.val, h1⟩ w) := by
  refine View.ld_unit_apply_of _ _ _ _ _ _ fun d => ?_
  fin_cases d <;> simp [ix3]

section
variable (𝒱 : Variants) (c : Dev nD) (bd : Option 𝒱.V) (i : grid0.Coords) (arg1 : Memref sig .tc .vmem S176x2x16x128 .f32) (harg1 : arg1.IsWhole) (arg2 : Memref sig .tc .vmem S2x1x256x1408 .bf16) (harg2 : arg2.IsWhole) (arg3 : Memref sig .tc .vmem S5632x1408 .fp8e4m3) (harg3 : arg3.IsWhole) (arg4 : Memref sig .tc .vmem S1408x5632 .fp8e4m3) (harg4 : arg4.IsWhole) (arg5 : Memref sig .tc .vmem S3x1408x128 .f32) (harg5 : arg5.IsWhole) (arg6 : Memref sig .tc .vmem S2x5632x128 .f32) (harg6 : arg6.IsWhole) (arg7 : Memref sig .tc .vmem S3x1x1408 .f32) (harg7 : arg7.IsWhole) (arg8 : Memref sig .tc .vmem S2x1x256x1408 .bf16) (harg8 : arg8.IsWhole) (arg9 : Memref sig .tc .vmem S2x1x256x1408 .fp8e4m3) (harg9 : arg9.IsWhole) (arg10 : Memref sig .tc .vmem S2x1x256x44 .f32) (harg10 : arg10.IsWhole) (arg11 : Memref sig .tc .vmem S2x1x256x5632 .fp8e4m3) (harg11 : arg11.IsWhole) (arg12 : Memref sig .tc .vmem S2x1x256x176 .f32) (harg12 : arg12.IsWhole) (arg13 : Memref sig .tc .vmem S1408x512 .bf16) (harg13 : arg13.IsWhole) (arg14 : Memref sig .tc .vmem S5632x512 .bf16) (harg14 : arg14.IsWhole) (arg15 : Memref sig .tc .vmem S11x4x512 .f32) (harg15 : arg15.IsWhole) (arg16 : Memref sig .tc .vmem S11x16x512 .f32) (harg16 : arg16.IsWhole)
  (x1 : Vec Ideal S176x2x16x128 .f32) (x2 : Vec Ideal S2x1x256x1408 .bf16) (x3 : Vec Ideal S5632x1408 .fp8e4m3)
  (x4 : Vec Ideal S1408x5632 .fp8e4m3) (x5 : Vec Ideal S3x1408x128 .f32) (x6 : Vec Ideal S2x5632x128 .f32)
  (x7 : Vec Ideal S3x1x1408 .f32)

/-- The biased value at a channel of the trip's slab. -/
theorem slab (k : ℕ) (hk : k < 11) (o16 o128 : ℕ) (h16 : o16 = k * 16) (h128 : o128 = k * 128) (i1 i2 i3 i4 i5) (a : Fin 128) (p : Fin 512) :
    ycat (View.ld x1 (Rect.unit ![o16, 0, 0, 0] ![16, 1, 8, 128] i1)) (View.ld x1 (Rect.unit ![o16, 1, 0, 0] ![16, 1, 8, 128] i2))
        (View.ld x1 (Rect.unit ![o16, 0, 8, 0] ![16, 1, 8, 128] i3)) (View.ld x1 (Rect.unit ![o16, 1, 8, 0] ![16, 1, 8, 128] i4)) (ix2 a p)
      + pcat (View.ld x5 (Rect.unit ![0, o128, 0] ![1, 128, 128] i5)) (ix2 a p)
      = Spec.yb (tokK x1 x2 x3 x4 x5 x6 x7 p) ⟨k * 128 + a.val, by omega⟩ := by
  subst h16 h128
  rw [ycat_at (fun g s r w => x1 (ix4 ⟨k * 16 + g.val, by omega⟩ s r w)) _ _ _ _
    (fun g r w => by rw [ld_y _ _ _ _ _ _ _ _ (by omega) (by omega) (by omega)]; congr 2; apply Fin.ext; simp)
    (fun g r w => by rw [ld_y _ _ _ _ _ _ _ _ (by omega) (by omega) (by omega)]; congr 2; apply Fin.ext; simp)
    (fun g r w => by rw [ld_y _ _ _ _ _ _ _ _ (by omega) (by omega) (by omega)]; rfl)
    (fun g r w => by rw [ld_y _ _ _ _ _ _ _ _ (by omega) (by omega) (by omega)]; rfl), pcat_at,
    ld_p _ _ _ _ _ _ (by omega) (by omega)]
  unfold Spec.yb tokK
  simp only []
  congr 3 <;> (apply Fin.ext; simp only []; omega)

theorem slab_p (r : ℕ) (hr : r < 3) (k : ℕ) (hk : k < 11) (o128 : ℕ) (h128 : o128 = k * 128) (i5) (a : Fin 128) (p : Fin 512) :
    pcat (View.ld x5 (Rect.unit ![r, o128, 0] ![1, 128, 128] i5)) (ix2 a p)
      = x5 (ix3 ⟨r, hr⟩ ⟨k * 128 + a.val, by omega⟩ ⟨p.val % 128, by omega⟩) := by
  subst h128
  rw [pcat_at, ld_p _ _ _ _ _ _ (by omega) (by omega)]

theorem tripR1 (k : Fin k0_t1_loop.trips) (hk : k.val < 11) (acc : FVec Ideal S8x512 .f32) (r : Fin 8) (p : Fin 512) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg5.unread x5) k acc (ix2 r p)
      = acc (ix2 r p) + ∑ g : Fin 16, Spec.yb (tokK x1 x2 x3 x4 x5 x6 x7 p) ⟨k.val * 128 + (g.val * 8 + r.val), by omega⟩ := by
  unfold tripR_k0_t1 trip_k0_t1; dsimp only; sl_unfold_words
  simp only [View.readAt_eq_ld, harg1.read_unread, harg5.read_unread, View.ld_unit_zero, shapeCast_self]
  rw [pay32_at]
  congr 1
  exact Finset.sum_congr rfl fun g _ => slab x1 x2 x3 x4 x5 x6 x7 k.val hk _ _ (off16 _ hk) (off128 _ hk) _ _ _ _ _ _ _

theorem tripR2 (v2 : FVec Ideal S8x512 .f32) (k : Fin k0_t2_loop.trips) (hk : k.val < 11) (acc : FVec Ideal S8x512 .f32) (r : Fin 8) (p : Fin 512)
    (hm : k0_pay33 v2 (ix2 0 p) = Spec.mu (tokK x1 x2 x3 x4 x5 x6 x7 p)) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 (harg1.unread x1) (harg5.unread x5) k acc (ix2 r p)
      = acc (ix2 r p) + ∑ g : Fin 16, Spec.dev (tokK x1 x2 x3 x4 x5 x6 x7 p) ⟨k.val * 128 + (g.val * 8 + r.val), by omega⟩
          * Spec.dev (tokK x1 x2 x3 x4 x5 x6 x7 p) ⟨k.val * 128 + (g.val * 8 + r.val), by omega⟩ := by
  unfold tripR_k0_t2 trip_k0_t2; dsimp only; sl_unfold_words
  simp only [View.readAt_eq_ld, harg1.read_unread, harg5.read_unread, View.ld_unit_zero, shapeCast_self]
  rw [pay34_at, hm]
  congr 1
  refine Finset.sum_congr rfl fun g _ => ?_
  have hs := slab x1 x2 x3 x4 x5 x6 x7 k.val hk _ _ (off16 _ hk) (off128 _ hk) (k0_off6_inb k) (k0_off7_inb k)
    (k0_off8_inb k) (k0_off9_inb k) (k0_off10_inb k) ⟨g.val * 8 + r.val, by omega⟩ p
  exact congrArg (fun t : EReal => (t - Spec.mu (tokK x1 x2 x3 x4 x5 x6 x7 p)) * (t - Spec.mu (tokK x1 x2 x3 x4 x5 x6 x7 p))) hs

/-- A sum over the 1408 channels, in the order the kernel adds them: by the row within a group of eight, by slab, by group. -/
theorem sum_regroup (f : Fin 1408 → EReal) :
    ∑ c, f c = ∑ r : Fin 8, ∑ k : Fin 11, ∑ g : Fin 16, f ⟨k.val * 128 + (g.val * 8 + r.val), by omega⟩ := by
  rw [Fin.sum_univ_tiles 11 128 rfl f]
  refine Eq.trans ?_ Finset.sum_comm
  refine Finset.sum_congr rfl fun k _ => ?_
  rw [Fin.sum_univ_tiles 16 8 rfl (fun t : Fin 128 => f ⟨k.val * 128 + t.val, by omega⟩)]
  exact Finset.sum_comm

theorem st1_at (n : ℕ) (hn : n ≤ 11) (r : Fin 8) (p : Fin 512) :
    st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg5.unread x5) (k0_pay31 (F := Ideal)) n (ix2 r p)
      = ∑ k : Fin n, ∑ g : Fin 16, Spec.yb (tokK x1 x2 x3 x4 x5 x6 x7 p) ⟨k.val * 128 + (g.val * 8 + r.val), by omega⟩ := by
  induction n with
  | zero => rw [st_k0_t1_zero]; exact Quant.bits0.trans (by simp)
  | succ n ih =>
    have h := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg5.unread x5) (k0_pay31 (F := Ideal)) ⟨n, Nat.lt_of_lt_of_eq (Nat.lt_of_succ_le hn) trips1.symm⟩
    refine (congrFun h _).trans ?_
    rw [tripR1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 _ (by simp only []; omega), ih (by omega)]
    exact (Fin.sum_univ_castSucc (M := EReal) (fun k : Fin (n + 1) => ∑ g : Fin 16, Spec.yb (tokK x1 x2 x3 x4 x5 x6 x7 p) ⟨k.val * 128 + (g.val * 8 + r.val), by omega⟩)).symm

theorem mean_eq (v2 : FVec Ideal S8x512 .f32)
    (h2 : v2 = st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg5.unread x5) (k0_pay31 (F := Ideal)) 11) (p : Fin 512) :
    k0_pay33 v2 (ix2 0 p) = Spec.mu (tokK x1 x2 x3 x4 x5 x6 x7 p) := by
  rw [pay33_at, h2]
  unfold Spec.mu
  rw [sum_regroup]
  congr 1
  exact Finset.sum_congr rfl fun r _ => st1_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 11 le_rfl r p

theorem st2_at (v2 : FVec Ideal S8x512 .f32) (n : ℕ) (hn : n ≤ 11) (r : Fin 8) (p : Fin 512)
    (hm : k0_pay33 v2 (ix2 0 p) = Spec.mu (tokK x1 x2 x3 x4 x5 x6 x7 p)) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 (harg1.unread x1) (harg5.unread x5) (k0_pay31 (F := Ideal)) n (ix2 r p)
      = ∑ k : Fin n, ∑ g : Fin 16, Spec.dev (tokK x1 x2 x3 x4 x5 x6 x7 p) ⟨k.val * 128 + (g.val * 8 + r.val), by omega⟩
          * Spec.dev (tokK x1 x2 x3 x4 x5 x6 x7 p) ⟨k.val * 128 + (g.val * 8 + r.val), by omega⟩ := by
  induction n with
  | zero => rw [st_k0_t2_zero]; exact Quant.bits0.trans (by simp)
  | succ n ih =>
    have h := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 (harg1.unread x1) (harg5.unread x5) (k0_pay31 (F := Ideal)) ⟨n, Nat.lt_of_lt_of_eq (Nat.lt_of_succ_le hn) trips2.symm⟩
    refine (congrFun h _).trans ?_
    rw [tripR2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 _ (by simp only []; omega) _ _ _ hm, ih (by omega)]
    exact (Fin.sum_univ_castSucc (M := EReal) (fun k : Fin (n + 1) => ∑ g : Fin 16, Spec.dev (tokK x1 x2 x3 x4 x5 x6 x7 p) ⟨k.val * 128 + (g.val * 8 + r.val), by omega⟩ * Spec.dev (tokK x1 x2 x3 x4 x5 x6 x7 p) ⟨k.val * 128 + (g.val * 8 + r.val), by omega⟩)).symm

theorem rs_eq (v2 v8 : FVec Ideal S8x512 .f32)
    (h2 : v2 = st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg5.unread x5) (k0_pay31 (F := Ideal)) 11)
    (h8 : v8 = st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 (harg1.unread x1) (harg5.unread x5) (k0_pay31 (F := Ideal)) 11) (p : Fin 512) :
    k0_pay35 v8 (ix2 0 p) = Spec.rs (tokK x1 x2 x3 x4 x5 x6 x7 p) := by
  rw [pay35_at, h8]
  unfold Spec.rs Spec.var
  rw [sum_regroup]
  congr 3
  exact Finset.sum_congr rfl fun r _ => st2_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 11 le_rfl r p
    (mean_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 h2 p)

end
end Cert.KernelIdeal.V
-- ==== Proof.KLoops.lean ====
/-
  THE KERNEL'S THREE STORING LOOPS: what one trip stores, and that its pieces are the tiles of one function each.
-/
module
public import proofs.«01_k».proof.Proof.KStats

@[expose] public section

set_option maxRecDepth 16384
set_option maxHeartbeats 2000000
noncomputable section
open Idealize.ShloMosaic Idealize.ShloMosaic.TcCoe Idealize.SL.Sem Idealize.ShloMosaic.Tactic
namespace Cert.KernelIdeal.V
open Cert.KernelIdeal Cert.KernelIdeal.Gen

/-- Every piece holds the tile of `G` its rectangle names. -/
def Agree {S : Shape} {e : EltTy} (L : List (View.Piece (Elt Ideal) S e)) (G : S.Idx → Elt Ideal e) : Prop :=
  ∀ p ∈ L, ∀ x : p.1.shape.Idx, p.2 x = G (p.1.emb x)
/-- Some piece holds the index. -/
def Cov {S : Shape} {e : EltTy} (L : List (View.Piece (Elt Ideal) S e)) (y : S.Idx) : Prop := ∃ p ∈ L, y ∈ p.1.set

theorem Agree.nil {S : Shape} {e : EltTy} (G : S.Idx → Elt Ideal e) : Agree [] G := fun p hp => absurd hp List.not_mem_nil
theorem Agree.cons {S : Shape} {e : EltTy} {p : View.Piece (Elt Ideal) S e} {L : List (View.Piece (Elt Ideal) S e)}
    {G : S.Idx → Elt Ideal e} (h : ∀ x : p.1.shape.Idx, p.2 x = G (p.1.emb x)) (hL : Agree L G) : Agree (p :: L) G := by
  intro q hq
  rcases List.mem_cons.1 hq with rfl | hq
  · exact h
  · exact hL q hq
theorem Agree.append {S : Shape} {e : EltTy} {L M : List (View.Piece (Elt Ideal) S e)}
    {G : S.Idx → Elt Ideal e} (h : Agree L G) (hM : Agree M G) : Agree (L ++ M) G := by
  intro q hq
  rcases List.mem_append.1 hq with hq | hq
  · exact h q hq
  · exact hM q hq
theorem Cov.here {S : Shape} {e : EltTy} {p : View.Piece (Elt Ideal) S e} {L : List (View.Piece (Elt Ideal) S e)} {y : S.Idx}
    (h : y ∈ p.1.set) : Cov (p :: L) y := ⟨p, List.mem_cons_self, h⟩
theorem Cov.there {S : Shape} {e : EltTy} {p : View.Piece (Elt Ideal) S e} {L : List (View.Piece (Elt Ideal) S e)} {y : S.Idx}
    (h : Cov L y) : Cov (p :: L) y := by
  obtain ⟨q, hq, h⟩ := h; exact ⟨q, List.mem_cons_of_mem _ hq, h⟩
theorem Cov.left {S : Shape} {e : EltTy} {L M : List (View.Piece (Elt Ideal) S e)} {y : S.Idx}
    (h : Cov L y) : Cov (L ++ M) y := by
  obtain ⟨q, hq, h⟩ := h; exact ⟨q, List.mem_append_left _ hq, h⟩
theorem Cov.right {S : Shape} {e : EltTy} {L M : List (View.Piece (Elt Ideal) S e)} {y : S.Idx}
    (h : Cov M y) : Cov (L ++ M) y := by
  obtain ⟨q, hq, h⟩ := h; exact ⟨q, List.mem_append_right _ hq, h⟩

/-- A unit rectangle's piece agrees, index by index. -/
theorem piece_agree {S : Shape} {e : EltTy} {off size : Fin S.rank → ℕ} {inb} {G : S.Idx → Elt Ideal e}
    (w : (Rect.unit off size inb).shape.Idx → Elt Ideal e)
    (h : ∀ x : (Rect.unit off size inb).shape.Idx, ∀ i : S.Idx, (∀ a, (i a : ℕ) = off a + x a) → w x = G i) :
    ∀ x, w x = G ((Rect.unit off size inb).emb x) :=
  fun x => h x _ fun a => by rw [Rect.emb_apply]; show off a + 1 * _ = _; omega

/-- Agreeing pieces covering an index leave the function's value there. -/
theorem read_of {κ : _} {sp : _} {S : Shape} {e : EltTy} (v : View sig κ sp S e) (f : v.ty.Contents (Elt Ideal))
    (L : List (View.Piece (Elt Ideal) S e)) (G : S.Idx → Elt Ideal e) (hG : Agree L G) (y : S.Idx) (hc : Cov L y) :
    v.read (Elt Ideal) (v.writes (Elt Ideal) f L) y = G y :=
  (View.read_writes_apply_eq_canon v f y L hc).trans (View.canon_apply_of_pieces G L hG y hc)

/-- A [1,1,256,128] tile of an array of 2 image groups, 256 rows and 1408 channels. -/
theorem tile4_1408 (q : ℕ) (hq : q < 2) (o k : ℕ) (ho : o = k * 128) (hk : k < 11) (inb) (w : S1x1x256x128.Idx → EReal)
    (F : Fin 2 → Fin 256 → Fin 1408 → EReal) (G : S2x1x256x1408.Idx → EReal) (hG : ∀ y, G y = F (y 0) (y 2) (y 3))
    (h : ∀ r a, w (ix4 0 0 r a) = F ⟨q, hq⟩ r ⟨k * 128 + a.val, by omega⟩) :
    ∀ x : (Rect.unit (s := S2x1x256x1408) ![q, 0, 0, o] ![1, 1, 256, 128] inb).shape.Idx,
      w x = G ((Rect.unit (s := S2x1x256x1408) ![q, 0, 0, o] ![1, 1, 256, 128] inb).emb x) := by
  refine piece_agree (S := S2x1x256x1408) (e := .f32) w ?_
  intro (x : S1x1x256x128.Idx) j hj
  idx_vars x
  have h0 : (j 0).val = q := by have := hj 0; simpa [ix4] using this
  have h2 : (j 2).val = x2.val := by have := hj 2; simpa [ix4] using this
  have h3 : (j 3).val = k * 128 + x3.val := by have := hj 3; simpa [ix4, ho] using this
  rw [hG, ← show (⟨q, hq⟩ : Fin 2) = j 0 from Fin.ext h0.symm, ← show x2 = j 2 from Fin.ext h2.symm,
    ← show (⟨k * 128 + x3.val, by omega⟩ : Fin 1408) = j 3 from Fin.ext h3.symm, ← h]
  congr 1
  funext d; fin_cases d <;> first | rfl | exact Subsingleton.elim (α := Fin 1) _ _
theorem mem4_1408 (q : ℕ) (o : ℕ) (inb) (y : S2x1x256x1408.Idx) (h0 : (y 0).val = q) (h3 : o ≤ (y 3).val) (h3' : (y 3).val < o + 128) :
    y ∈ (Rect.unit (s := S2x1x256x1408) ![q, 0, 0, o] ![1, 1, 256, 128] inb).set := by
  rw [Rect.mem_set_unit]
  have h1 : (y 1).val < 1 := (y 1).isLt
  have h2 : (y 2).val < 256 := (y 2).isLt
  intro d; fin_cases d <;> simp <;> omega

/-- A [1,1,256,512] tile of an array of 2 image groups, 256 rows and 5632 channels. -/
theorem tile4_5632 (q : ℕ) (hq : q < 2) (o k : ℕ) (ho : o = k * 512) (hk : k < 11) (inb) (w : S1x1x256x512.Idx → EReal)
    (F : Fin 2 → Fin 256 → Fin 5632 → EReal) (G : S2x1x256x5632.Idx → EReal) (hG : ∀ y, G y = F (y 0) (y 2) (y 3))
    (h : ∀ r a, w (ix4 0 0 r a) = F ⟨q, hq⟩ r ⟨k * 512 + a.val, by omega⟩) :
    ∀ x : (Rect.unit (s := S2x1x256x5632) ![q, 0, 0, o] ![1, 1, 256, 512] inb).shape.Idx,
      w x = G ((Rect.unit (s := S2x1x256x5632) ![q, 0, 0, o] ![1, 1, 256, 512] inb).emb x) := by
  refine piece_agree (S := S2x1x256x5632) (e := .f32) w ?_
  intro (x : S1x1x256x512.Idx) j hj
  idx_vars x
  have h0 : (j 0).val = q := by have := hj 0; simpa [ix4] using this
  have h2 : (j 2).val = x2.val := by have := hj 2; simpa [ix4] using this
  have h3 : (j 3).val = k * 512 + x3.val := by have := hj 3; simpa [ix4, ho] using this
  rw [hG, ← show (⟨q, hq⟩ : Fin 2) = j 0 from Fin.ext h0.symm, ← show x2 = j 2 from Fin.ext h2.symm,
    ← show (⟨k * 512 + x3.val, by omega⟩ : Fin 5632) = j 3 from Fin.ext h3.symm, ← h]
  congr 1
  funext d; fin_cases d <;> first | rfl | exact Subsingleton.elim (α := Fin 1) _ _
theorem mem4_5632 (q : ℕ) (o : ℕ) (inb) (y : S2x1x256x5632.Idx) (h0 : (y 0).val = q) (h3 : o ≤ (y 3).val) (h3' : (y 3).val < o + 512) :
    y ∈ (Rect.unit (s := S2x1x256x5632) ![q, 0, 0, o] ![1, 1, 256, 512] inb).set := by
  rw [Rect.mem_set_unit]
  have h1 : (y 1).val < 1 := (y 1).isLt
  have h2 : (y 2).val < 256 := (y 2).isLt
  intro d; fin_cases d <;> simp <;> omega

theorem tile2_1408 (o k : ℕ) (ho : o = k * 128) (hk : k < 11) (inb) (w : S128x512.Idx → EReal)
    (G : S1408x512.Idx → EReal) (F : Fin 1408 → Fin 512 → EReal) (hG : ∀ y, G y = F (y 0) (y 1))
    (h : ∀ a p, w (ix2 a p) = F ⟨k * 128 + a.val, by omega⟩ p) :
    ∀ x : (Rect.unit (s := S1408x512) ![o, 0] ![128, 512] inb).shape.Idx, w x = G ((Rect.unit (s := S1408x512) ![o, 0] ![128, 512] inb).emb x) := by
  refine piece_agree (S := S1408x512) (e := .f32) w ?_
  intro (x : S128x512.Idx) j hj
  idx_vars x
  have h0 : (j 0).val = k * 128 + x0.val := by have := hj 0; simpa [ix2, ho] using this
  have h1 : (j 1).val = x1.val := by have := hj 1; simpa [ix2] using this
  rw [hG, ← show (⟨k * 128 + x0.val, by omega⟩ : Fin 1408) = j 0 from Fin.ext h0.symm, ← show x1 = j 1 from Fin.ext h1.symm, ← h]
theorem mem2_1408 (o : ℕ) (inb) (y : S1408x512.Idx) (h3 : o ≤ (y 0).val) (h3' : (y 0).val < o + 128) :
    y ∈ (Rect.unit (s := S1408x512) ![o, 0] ![128, 512] inb).set := by
  rw [Rect.mem_set_unit]
  have h1 : (y 1).val < 512 := (y 1).isLt
  intro d; fin_cases d <;> simp <;> omega

theorem tile2_5632 (o k : ℕ) (ho : o = k * 512) (hk : k < 11) (inb) (w : S512x512.Idx → EReal)
    (G : S5632x512.Idx → EReal) (F : Fin 5632 → Fin 512 → EReal) (hG : ∀ y, G y = F (y 0) (y 1))
    (h : ∀ a p, w (ix2 a p) = F ⟨k * 512 + a.val, by omega⟩ p) :
    ∀ x : (Rect.unit (s := S5632x512) ![o, 0] ![512, 512] inb).shape.Idx, w x = G ((Rect.unit (s := S5632x512) ![o, 0] ![512, 512] inb).emb x) := by
  refine piece_agree (S := S5632x512) (e := .f32) w ?_
  intro (x : S512x512.Idx) j hj
  idx_vars x
  have h0 : (j 0).val = k * 512 + x0.val := by have := hj 0; simpa [ix2, ho] using this
  have h1 : (j 1).val = x1.val := by have := hj 1; simpa [ix2] using this
  rw [hG, ← show (⟨k * 512 + x0.val, by omega⟩ : Fin 5632) = j 0 from Fin.ext h0.symm, ← show x1 = j 1 from Fin.ext h1.symm, ← h]
theorem mem2_5632 (o : ℕ) (inb) (y : S5632x512.Idx) (h3 : o ≤ (y 0).val) (h3' : (y 0).val < o + 512) :
    y ∈ (Rect.unit (s := S5632x512) ![o, 0] ![512, 512] inb).set := by
  rw [Rect.mem_set_unit]
  have h1 : (y 1).val < 512 := (y 1).isLt
  intro d; fin_cases d <;> simp <;> omega

theorem tile3_4 (o k : ℕ) (ho : o = k) (hk : k < 11) (inb) (w : S1x4x512.Idx → EReal)
    (G : S11x4x512.Idx → EReal) (F : Fin 11 → Fin 4 → Fin 512 → EReal) (hG : ∀ y, G y = F (y 0) (y 1) (y 2))
    (h : ∀ a p, w (ix3 0 a p) = F ⟨k, hk⟩ a p) :
    ∀ x : (Rect.unit (s := S11x4x512) ![o, 0, 0] ![1, 4, 512] inb).shape.Idx,
      w x = G ((Rect.unit (s := S11x4x512) ![o, 0, 0] ![1, 4, 512] inb).emb x) := by
  refine piece_agree (S := S11x4x512) (e := .f32) w ?_
  intro (x : S1x4x512.Idx) j hj
  idx_vars x
  have h0 : (j 0).val = k := by have := hj 0; simpa [ix3, ho] using this
  have h1 : (j 1).val = x1.val := by have := hj 1; simpa [ix3] using this
  have h2 : (j 2).val = x2.val := by have := hj 2; simpa [ix3] using this
  rw [hG, ← show (⟨k, hk⟩ : Fin 11) = j 0 from Fin.ext h0.symm, ← show x1 = j 1 from Fin.ext h1.symm, ← show x2 = j 2 from Fin.ext h2.symm, ← h]
  congr 1
  funext d; fin_cases d <;> first | rfl | exact Subsingleton.elim (α := Fin 1) _ _
theorem mem3_4 (o : ℕ) (inb) (y : S11x4x512.Idx) (h3 : (y 0).val = o) :
    y ∈ (Rect.unit (s := S11x4x512) ![o, 0, 0] ![1, 4, 512] inb).set := by
  rw [Rect.mem_set_unit]
  have h1 : (y 1).val < 4 := (y 1).isLt
  have h2 : (y 2).val < 512 := (y 2).isLt
  intro d; fin_cases d <;> simp <;> omega

theorem tile3_16 (o k : ℕ) (ho : o = k) (hk : k < 11) (inb) (w : S1x16x512.Idx → EReal)
    (G : S11x16x512.Idx → EReal) (F : Fin 11 → Fin 16 → Fin 512 → EReal) (hG : ∀ y, G y = F (y 0) (y 1) (y 2))
    (h : ∀ a p, w (ix3 0 a p) = F ⟨k, hk⟩ a p) :
    ∀ x : (Rect.unit (s := S11x16x512) ![o, 0, 0] ![1, 16, 512] inb).shape.Idx,
      w x = G ((Rect.unit (s := S11x16x512) ![o, 0, 0] ![1, 16, 512] inb).emb x) := by
  refine piece_agree (S := S11x16x512) (e := .f32) w ?_
  intro (x : S1x16x512.Idx) j hj
  idx_vars x
  have h0 : (j 0).val = k := by have := hj 0; simpa [ix3, ho] using this
  have h1 : (j 1).val = x1.val := by have := hj 1; simpa [ix3] using this
  have h2 : (j 2).val = x2.val := by have := hj 2; simpa [ix3] using this
  rw [hG, ← show (⟨k, hk⟩ : Fin 11) = j 0 from Fin.ext h0.symm, ← show x1 = j 1 from Fin.ext h1.symm, ← show x2 = j 2 from Fin.ext h2.symm, ← h]
  congr 1
  funext d; fin_cases d <;> first | rfl | exact Subsingleton.elim (α := Fin 1) _ _
theorem mem3_16 (o : ℕ) (inb) (y : S11x16x512.Idx) (h3 : (y 0).val = o) :
    y ∈ (Rect.unit (s := S11x16x512) ![o, 0, 0] ![1, 16, 512] inb).set := by
  rw [Rect.mem_set_unit]
  have h1 : (y 1).val < 16 := (y 1).isLt
  have h2 : (y 2).val < 512 := (y 2).isLt
  intro d; fin_cases d <;> simp <;> omega

section
variable (𝒱 : Variants) (c : Dev nD) (bd : Option 𝒱.V) (i : grid0.Coords) (arg1 : Memref sig .tc .vmem S176x2x16x128 .f32) (harg1 : arg1.IsWhole) (arg2 : Memref sig .tc .vmem S2x1x256x1408 .bf16) (harg2 : arg2.IsWhole) (arg3 : Memref sig .tc .vmem S5632x1408 .fp8e4m3) (harg3 : arg3.IsWhole) (arg4 : Memref sig .tc .vmem S1408x5632 .fp8e4m3) (harg4 : arg4.IsWhole) (arg5 : Memref sig .tc .vmem S3x1408x128 .f32) (harg5 : arg5.IsWhole) (arg6 : Memref sig .tc .vmem S2x5632x128 .f32) (harg6 : arg6.IsWhole) (arg7 : Memref sig .tc .vmem S3x1x1408 .f32) (harg7 : arg7.IsWhole) (arg8 : Memref sig .tc .vmem S2x1x256x1408 .bf16) (harg8 : arg8.IsWhole) (arg9 : Memref sig .tc .vmem S2x1x256x1408 .fp8e4m3) (harg9 : arg9.IsWhole) (arg10 : Memref sig .tc .vmem S2x1x256x44 .f32) (harg10 : arg10.IsWhole) (arg11 : Memref sig .tc .vmem S2x1x256x5632 .fp8e4m3) (harg11 : arg11.IsWhole) (arg12 : Memref sig .tc .vmem S2x1x256x176 .f32) (harg12 : arg12.IsWhole) (arg13 : Memref sig .tc .vmem S1408x512 .bf16) (harg13 : arg13.IsWhole) (arg14 : Memref sig .tc .vmem S5632x512 .bf16) (harg14 : arg14.IsWhole) (arg15 : Memref sig .tc .vmem S11x4x512 .f32) (harg15 : arg15.IsWhole) (arg16 : Memref sig .tc .vmem S11x16x512 .f32) (harg16 : arg16.IsWhole)
  (x1 : Vec Ideal S176x2x16x128 .f32) (x2 : Vec Ideal S2x1x256x1408 .bf16) (x3 : Vec Ideal S5632x1408 .fp8e4m3)
  (x4 : Vec Ideal S1408x5632 .fp8e4m3) (x5 : Vec Ideal S3x1408x128 .f32) (x6 : Vec Ideal S2x5632x128 .f32)
  (x7 : Vec Ideal S3x1x1408 .f32)

/-- The normed values of a trip's slab. -/
theorem slab_z (v2 v8 : FVec Ideal S8x512 .f32) (hm : ∀ p, k0_pay33 v2 (ix2 0 p) = Spec.mu (tokK x1 x2 x3 x4 x5 x6 x7 p))
    (hr : ∀ p, k0_pay35 v8 (ix2 0 p) = Spec.rs (tokK x1 x2 x3 x4 x5 x6 x7 p)) (k : ℕ) (hk : k < 11) (o16 o128 : ℕ) (h16 : o16 = k * 16) (h128 : o128 = k * 128)
    (i1 i2 i3 i4 i5 i6 i7) (a : Fin 128) (p : Fin 512) :
    k0_pay6 (k0_pay33 v2) (k0_pay35 v8)
        (View.ld x1 (Rect.unit ![o16, 0, 0, 0] ![16, 1, 8, 128] i1)) (View.ld x1 (Rect.unit ![o16, 1, 0, 0] ![16, 1, 8, 128] i2))
        (View.ld x1 (Rect.unit ![o16, 0, 8, 0] ![16, 1, 8, 128] i3)) (View.ld x1 (Rect.unit ![o16, 1, 8, 0] ![16, 1, 8, 128] i4))
        (View.ld x5 (Rect.unit ![0, o128, 0] ![1, 128, 128] i5)) (View.ld x5 (Rect.unit ![1, o128, 0] ![1, 128, 128] i6)) (ix2 a p)
      + pcat (View.ld x5 (Rect.unit ![2, o128, 0] ![1, 128, 128] i7)) (ix2 a p)
      = Spec.z (tokK x1 x2 x3 x4 x5 x6 x7 p) ⟨k * 128 + a.val, by omega⟩ := by
  rw [pay6_at, hm, hr, slab x1 x2 x3 x4 x5 x6 x7 k hk _ _ h16 h128, slab_p x5 1 (by omega) k hk _ h128, slab_p x5 2 (by omega) k hk _ h128]
  rfl

/-- The first quantisation's codes, by block index … -/
def G9 (y : S2x1x256x1408.Idx) : EReal := Spec.q1 (tokK x1 x2 x3 x4 x5 x6 x7 ⟨(y 0).val * 256 + (y 2).val, by have h0 : (y 0).val < 2 := (y 0).isLt; have h2 : (y 2).val < 256 := (y 2).isLt; omega⟩) (y 3)
/-- … the scaled-back values … -/
def G13 (y : S1408x512.Idx) : EReal := Spec.deq 44 (Spec.z (tokK x1 x2 x3 x4 x5 x6 x7 (y 1))) (y 0)
/-- … and the scales. -/
def G15 (y : S11x4x512.Idx) : EReal := Spec.sc1 (tokK x1 x2 x3 x4 x5 x6 x7 (y 2)) ⟨(y 0).val * 4 + (y 1).val, by have h0 : (y 0).val < 11 := (y 0).isLt; have h2 : (y 1).val < 4 := (y 1).isLt; omega⟩
/-- The second quantisation's codes, scaled-back values and scales … -/
def G11 (y : S2x1x256x5632.Idx) : EReal := Spec.q2 (tokK x1 x2 x3 x4 x5 x6 x7 ⟨(y 0).val * 256 + (y 2).val, by have h0 : (y 0).val < 2 := (y 0).isLt; have h2 : (y 2).val < 256 := (y 2).isLt; omega⟩) (y 3)
def G14 (y : S5632x512.Idx) : EReal := Spec.deq 176 (Spec.h (tokK x1 x2 x3 x4 x5 x6 x7 (y 1))) (y 0)
def G16 (y : S11x16x512.Idx) : EReal := Spec.sc2 (tokK x1 x2 x3 x4 x5 x6 x7 (y 2)) ⟨(y 0).val * 16 + (y 1).val, by have h0 : (y 0).val < 11 := (y 0).isLt; have h2 : (y 1).val < 16 := (y 1).isLt; omega⟩
/-- … and the block's result. -/
def G8 (y : S2x1x256x1408.Idx) : EReal := Spec.out (tokK x1 x2 x3 x4 x5 x6 x7 ⟨(y 0).val * 256 + (y 2).val, by have h0 : (y 0).val < 2 := (y 0).isLt; have h2 : (y 2).val < 256 := (y 2).isLt; omega⟩) (y 3)

/-- The gelu values of a trip's slab. -/
theorem slab_h (Z : Vec Ideal S1408x512 .bf16) (hX : ∀ (a : Fin 1408) (p : Fin 512), Z (ix2 a p) = Spec.deq 44 (Spec.z (tokK x1 x2 x3 x4 x5 x6 x7 p)) a)
    (k : ℕ) (hk : k < 11) (o : ℕ) (h512 : o = k * 512) (i1 i2 i3) (i : Fin 16) (x : Fin 32) (p : Fin 512) :
    k0_pay15 (View.ld x3 (Rect.unit ![o, 0] ![512, 1408] i1)) Z (View.ld x6 (Rect.unit ![0, o, 0] ![1, 512, 128] i2))
        (View.ld x6 (Rect.unit ![1, o, 0] ![1, 512, 128] i3)) (ix3 i x p)
      = Spec.h (tokK x1 x2 x3 x4 x5 x6 x7 p) ⟨k * 512 + (i.val * 32 + x.val), by omega⟩ := by
  subst h512
  refine pay15_at _ _ _ _ (fun a p => Spec.u (tokK x1 x2 x3 x4 x5 x6 x7 p) ⟨k * 512 + a.val, by omega⟩) ?_ i x p
  intro a p
  rw [fcat_at, fcat_at]
  unfold Spec.u
  refine congrArg₂ (fun s t : EReal => s + t) (congrArg₂ (fun s t : EReal => s * t) (Finset.sum_congr rfl fun c _ => ?_) ?_) ?_
  · rw [hX, mul_comm (G := EReal)]
    refine congrArg₂ (fun s t : EReal => s * t) rfl ?_
    exact View.ld_unit_apply_of _ _ _ _ _ _ fun d => by fin_cases d <;> simp [ix2]
  · exact View.ld_unit_apply_of _ _ _ _ _ _ fun d => by fin_cases d <;> simp [ix3]
  · exact View.ld_unit_apply_of _ _ _ _ _ _ fun d => by fin_cases d <;> simp [ix3]

/-- The second product's values of a trip's slab, scaled and biased … -/
theorem slab_o (Z : Vec Ideal S5632x512 .bf16) (hX : ∀ (a : Fin 5632) (p : Fin 512), Z (ix2 a p) = Spec.deq 176 (Spec.h (tokK x1 x2 x3 x4 x5 x6 x7 p)) a)
    (k : ℕ) (hk : k < 11) (o : ℕ) (h128 : o = k * 128) (i1 i2 i3 i4) (p : Fin 512) (a : Fin 128) :
    k0_pay28 (View.ld x4 (Rect.unit ![o, 0] ![128, 5632] i1)) Z (View.ld x7 (Rect.unit ![0, 0, o] ![1, 1, 128] i2))
        (View.ld x7 (Rect.unit ![1, 0, o] ![1, 1, 128] i3)) (View.ld x7 (Rect.unit ![2, 0, o] ![1, 1, 128] i4)) (ix2 p a)
      = (tokK x1 x2 x3 x4 x5 x6 x7 p).ls ⟨k * 128 + a.val, by omega⟩ * ((∑ f : Fin 5632, Spec.deq 176 (Spec.h (tokK x1 x2 x3 x4 x5 x6 x7 p)) f * (tokK x1 x2 x3 x4 x5 x6 x7 p).w2 f ⟨k * 128 + a.val, by omega⟩)
          * (tokK x1 x2 x3 x4 x5 x6 x7 p).s2 ⟨k * 128 + a.val, by omega⟩ + (tokK x1 x2 x3 x4 x5 x6 x7 p).b2 ⟨k * 128 + a.val, by omega⟩) := by
  subst h128
  rw [pay28_at]
  refine congrArg₂ (fun s t : EReal => s * t) ?_
    (congrArg₂ (fun s t : EReal => s + t) (congrArg₂ (fun s t : EReal => s * t) (Finset.sum_congr rfl fun c _ => ?_) ?_) ?_)
  · exact View.ld_unit_apply_of _ _ _ _ _ _ fun d => by fin_cases d <;> simp [ix3]
  · rw [hX, mul_comm (G := EReal)]
    refine congrArg₂ (fun s t : EReal => s * t) rfl ?_
    exact View.ld_unit_apply_of _ _ _ _ _ _ fun d => by fin_cases d <;> simp [ix2]
  · exact View.ld_unit_apply_of _ _ _ _ _ _ fun d => by fin_cases d <;> simp [ix3]
  · exact View.ld_unit_apply_of _ _ _ _ _ _ fun d => by fin_cases d <;> simp [ix3]

/-- … and with the residual added. -/
theorem slab_x (q : ℕ) (hq : q < 2) (r : Fin 256) (a : Fin 128) (p : Fin 512) (hp : p.val = q * 256 + r.val) (k : ℕ) (hk : k < 11) (o : ℕ) (h128 : o = k * 128) (i1)
    (m : EReal) (hm : m = (tokK x1 x2 x3 x4 x5 x6 x7 p).ls ⟨k * 128 + a.val, by omega⟩ * ((∑ f : Fin 5632, Spec.deq 176 (Spec.h (tokK x1 x2 x3 x4 x5 x6 x7 p)) f * (tokK x1 x2 x3 x4 x5 x6 x7 p).w2 f ⟨k * 128 + a.val, by omega⟩)
          * (tokK x1 x2 x3 x4 x5 x6 x7 p).s2 ⟨k * 128 + a.val, by omega⟩ + (tokK x1 x2 x3 x4 x5 x6 x7 p).b2 ⟨k * 128 + a.val, by omega⟩)) :
    View.ld x2 (Rect.unit ![q, 0, 0, o] ![1, 1, 256, 128] i1) (ix4 0 0 r a) + m = Spec.out (tokK x1 x2 x3 x4 x5 x6 x7 p) ⟨k * 128 + a.val, by omega⟩ := by
  subst h128 hm
  unfold Spec.out
  refine congrArg (fun t : EReal => t + _) ?_
  refine View.ld_unit_apply_of _ _ _ _ _ _ fun d => ?_
  fin_cases d <;> simp [ix4] <;> omega

theorem trip3_eq (v2 v8 : FVec Ideal S8x512 .f32) (hm : ∀ p, k0_pay33 v2 (ix2 0 p) = Spec.mu (tokK x1 x2 x3 x4 x5 x6 x7 p))
    (hr : ∀ p, k0_pay35 v8 (ix2 0 p) = Spec.rs (tokK x1 x2 x3 x4 x5 x6 x7 p)) (k : Fin k0_t3_loop.trips) (hk : k.val < 11) :
    ∃ (v76 : FVec Ideal S128x512 .f32) (v80 : Vec Ideal S1x128x128 .f32) (o o' : ℕ),
      (∀ (a : Fin 128) (p : Fin 512), v76 (ix2 a p) + pcat v80 (ix2 a p) = Spec.z (tokK x1 x2 x3 x4 x5 x6 x7 p) ⟨k.val * 128 + a.val, by omega⟩)
      ∧ o = k.val * 128 ∧ o' = k.val
      ∧ ∃ j1 j2 j3 j4, tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) k
        = ([⟨Rect.unit ![1, 0, 0, o] ![1, 1, 256, 128] j1, k0_pay41 (q169 v76 v80)⟩,
            ⟨Rect.unit ![0, 0, 0, o] ![1, 1, 256, 128] j2, k0_pay40 (q169 v76 v80)⟩],
           [⟨Rect.unit ![o, 0] ![128, 512] j3, k0_pay37 (q157 v76 v80) (q169 v76 v80)⟩],
           [⟨Rect.unit ![o', 0, 0] ![1, 4, 512] j4, k0_pay38 (q157 v76 v80)⟩]) := by
  have hz := fun (a : Fin 128) (p : Fin 512) => slab_z x1 x2 x3 x4 x5 x6 x7 v2 v8 hm hr k.val hk _ _ (off16 _ hk) (off128 _ hk) (k0_off11_inb k) (k0_off12_inb k)
    (k0_off13_inb k) (k0_off14_inb k) (k0_off15_inb k) (k0_off16_inb k) (k0_off17_inb k) a p
  refine ⟨_, _, _, _, hz, off128 _ hk, off1 _ hk, k0_off21_inb k, k0_off20_inb k, k0_off18_inb k, k0_off19_inb k, ?_⟩
  clear hz hm hr
  unfold tripL_k0_t3 trip_k0_t3; dsimp only; sl_unfold_words
  simp only [View.readAt_eq_ld, harg1.read_unread, harg5.read_unread, View.ld_unit_zero, shapeCast_self]
  rfl

theorem trip4_eq (X13 : BufTy.Contents (Elt Ideal) arg13.view.ty)
    (hX : ∀ (a : Fin 1408) (p : Fin 512), arg13.view.read (Elt Ideal) X13 (ix2 a p) = Spec.deq 44 (Spec.z (tokK x1 x2 x3 x4 x5 x6 x7 p)) a)
    (k : Fin k0_t4_loop.trips) (hk : k.val < 11) :
    ∃ (v71 : FVec Ideal S16x32x512 .f32) (r : FVec Ideal S16x1x512 .f32) (o o' : ℕ),
      (∀ (i : Fin 16) (p : Fin 512), r (ix3 i 0 p)
        = Finset.univ.fold max (Ideal.ofBits .f32 0xFF800000#32)
            (fun k : Fin 32 => FloatOps.absf (F := Ideal) (φ := .f32) (v71 (ix3 i k p)))
          * Ideal.ofBits .f32 0x3B124925#32)
      ∧ (∀ (i : Fin 16) (x : Fin 32) (p : Fin 512), v71 (ix3 i x p) = Spec.h (tokK x1 x2 x3 x4 x5 x6 x7 p) ⟨k.val * 512 + (i.val * 32 + x.val), by omega⟩)
      ∧ o = k.val * 512 ∧ o' = k.val
      ∧ ∃ j1 j2 j3 j4, tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 k
        = ([⟨Rect.unit ![1, 0, 0, o] ![1, 1, 256, 512] j1, k0_pay44 (k0_pay25 v71 r (v126 r) k0_pay21)⟩,
            ⟨Rect.unit ![0, 0, 0, o] ![1, 1, 256, 512] j2, k0_pay43 (k0_pay25 v71 r (v126 r) k0_pay21)⟩],
           [⟨Rect.unit ![o, 0] ![512, 512] j3, k0_pay26 v71 r (v126 r) k0_pay21⟩],
           [⟨Rect.unit ![o', 0, 0] ![1, 16, 512] j4, k0_pay27 r (v126 r) k0_pay21⟩]) := by
  have hh := fun (i : Fin 16) (x : Fin 32) (p : Fin 512) => slab_h x1 x2 x3 x4 x5 x6 x7 (arg13.view.read (Elt Ideal) X13) hX k.val hk _ (off512 _ hk)
    (k0_off22_inb k) (k0_off23_inb k) (k0_off24_inb k) i x p
  have hr := fun (i : Fin 16) (p : Fin 512) => pay16_at (View.ld x3 (Rect.unit _ ![512, 1408] (k0_off22_inb k))) (arg13.view.read (Elt Ideal) X13)
    (View.ld x6 (Rect.unit _ ![1, 512, 128] (k0_off23_inb k))) (View.ld x6 (Rect.unit _ ![1, 512, 128] (k0_off24_inb k))) i p
  refine ⟨_, _, _, _, hr, hh, off512 _ hk, off1 _ hk, k0_off28_inb k, k0_off27_inb k, k0_off25_inb k, k0_off26_inb k, ?_⟩
  clear hh hr hX
  unfold tripL_k0_t4 trip_k0_t4; dsimp only; sl_unfold_words
  have e : ∀ inb, View.ld (arg13.view.read (Elt Ideal) X13) (Rect.unit ![0, 0] ![1408, 512] inb) = arg13.view.read (Elt Ideal) X13 := fun inb =>
    View.ld_unit_zero (S := S1408x512) (by funext a; fin_cases a <;> rfl) inb _
  simp only [View.readAt_eq_ld, harg3.read_unread, harg6.read_unread, e, shapeCast_self]

theorem trip5_eq (X14 : BufTy.Contents (Elt Ideal) arg14.view.ty)
    (hX : ∀ (a : Fin 5632) (p : Fin 512), arg14.view.read (Elt Ideal) X14 (ix2 a p) = Spec.deq 176 (Spec.h (tokK x1 x2 x3 x4 x5 x6 x7 p)) a)
    (k : Fin k0_t5_loop.trips) (hk : k.val < 11) :
    ∃ (w1 w0 : FVec Ideal S1x1x256x128 .bf16) (o : ℕ),
      (∀ (r : Fin 256) (a : Fin 128), w1 (ix4 0 0 r a) = Spec.out (tokK x1 x2 x3 x4 x5 x6 x7 ⟨256 + r.val, by omega⟩) ⟨k.val * 128 + a.val, by omega⟩)
      ∧ (∀ (r : Fin 256) (a : Fin 128), w0 (ix4 0 0 r a) = Spec.out (tokK x1 x2 x3 x4 x5 x6 x7 ⟨r.val, by omega⟩) ⟨k.val * 128 + a.val, by omega⟩)
      ∧ o = k.val * 128
      ∧ ∃ j1 j2, tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg4.unread x4) (harg7.unread x7) X14 k
        = [⟨Rect.unit ![1, 0, 0, o] ![1, 1, 256, 128] j1, w1⟩, ⟨Rect.unit ![0, 0, 0, o] ![1, 1, 256, 128] j2, w0⟩] := by
  have hw := fun (p : Fin 512) (a : Fin 128) => slab_o x1 x2 x3 x4 x5 x6 x7 (arg14.view.read (Elt Ideal) X14) hX k.val hk _ (off128 _ hk)
    (k0_off29_inb k) (k0_off30_inb k) (k0_off31_inb k) (k0_off32_inb k) p a
  have h0 := fun (r : Fin 256) (a : Fin 128) => (pay29_at (View.ld x4 (Rect.unit _ ![128, 5632] (k0_off29_inb k))) (arg14.view.read (Elt Ideal) X14)
    (View.ld x7 (Rect.unit _ ![1, 1, 128] (k0_off30_inb k))) (View.ld x7 (Rect.unit _ ![1, 1, 128] (k0_off31_inb k)))
    (View.ld x7 (Rect.unit _ ![1, 1, 128] (k0_off32_inb k))) (View.ld x2 (Rect.unit _ ![1, 1, 256, 128] (k0_off33_inb k))) r a).trans
      (slab_x x1 x2 x3 x4 x5 x6 x7 0 (by omega) r a ⟨r.val, by omega⟩ (by simp) k.val hk _ (off128 _ hk) _ _ (hw ⟨r.val, by omega⟩ a))
  have h1 := fun (r : Fin 256) (a : Fin 128) => (pay45_at (k0_pay28 (View.ld x4 (Rect.unit _ ![128, 5632] (k0_off29_inb k))) (arg14.view.read (Elt Ideal) X14)
    (View.ld x7 (Rect.unit _ ![1, 1, 128] (k0_off30_inb k))) (View.ld x7 (Rect.unit _ ![1, 1, 128] (k0_off31_inb k)))
    (View.ld x7 (Rect.unit _ ![1, 1, 128] (k0_off32_inb k)))) (View.ld x2 (Rect.unit _ ![1, 1, 256, 128] (k0_off34_inb k))) r a).trans
      (slab_x x1 x2 x3 x4 x5 x6 x7 1 (by omega) r a ⟨256 + r.val, by omega⟩ (by simp) k.val hk _ (off128 _ hk) _ _ (hw ⟨256 + r.val, by omega⟩ a))
  refine ⟨_, _, _, h1, h0, off128 _ hk, k0_off34_inb k, k0_off33_inb k, ?_⟩
  clear h1 h0 hw hX
  unfold tripL_k0_t5 trip_k0_t5; dsimp only; sl_unfold_words
  have e : ∀ inb, View.ld (arg14.view.read (Elt Ideal) X14) (Rect.unit ![0, 0] ![5632, 512] inb) = arg14.view.read (Elt Ideal) X14 := fun inb =>
    View.ld_unit_zero (S := S5632x512) (by funext a; fin_cases a <;> rfl) inb _
  simp only [View.readAt_eq_ld, harg2.read_unread, harg4.read_unread, harg7.read_unread, e, shapeCast_self]

/-! ## The pieces of the trips before `n` -/

theorem pb3 (v2 v8 : FVec Ideal S8x512 .f32) (hm : ∀ p, k0_pay33 v2 (ix2 0 p) = Spec.mu (tokK x1 x2 x3 x4 x5 x6 x7 p))
    (hr : ∀ p, k0_pay35 v8 (ix2 0 p) = Spec.rs (tokK x1 x2 x3 x4 x5 x6 x7 p)) (n : ℕ) (hn : n ≤ 11) :
    (Agree (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) n).1 (G9 x1 x2 x3 x4 x5 x6 x7) ∧ ∀ y : S2x1x256x1408.Idx, (y 3).val < n * 128 → Cov (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) n).1 y)
    ∧ (Agree (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) n).2.1 (G13 x1 x2 x3 x4 x5 x6 x7) ∧ ∀ y : S1408x512.Idx, (y 0).val < n * 128 → Cov (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) n).2.1 y)
    ∧ (Agree (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) n).2.2 (G15 x1 x2 x3 x4 x5 x6 x7) ∧ ∀ y : S11x4x512.Idx, (y 0).val < n → Cov (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) n).2.2 y) := by
  induction n with
  | zero => exact ⟨⟨Agree.nil _, fun y h => absurd h (by omega)⟩, ⟨Agree.nil _, fun y h => absurd h (by omega)⟩, ⟨Agree.nil _, fun y h => absurd h (by omega)⟩⟩
  | succ n ih =>
    obtain ⟨⟨a1, c1⟩, ⟨a2, c2⟩, ⟨a3, c3⟩⟩ := ih (by omega)
    have hs := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) ⟨n, Nat.lt_of_lt_of_eq (Nat.lt_of_succ_le hn) trips3.symm⟩
    obtain ⟨v76, v80, o, o', hz, ho, ho', j1, j2, j3, j4, ht⟩ := trip3_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 v8 hm hr ⟨n, Nat.lt_of_lt_of_eq (Nat.lt_of_succ_le hn) trips3.symm⟩ hn
    rw [ht] at hs
    replace ho : o = n * 128 := ho
    replace ho' : o' = n := ho'
    have hk : n < 11 := hn
    have e : pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) (n + 1) = _ := hs
    rw [e]
    refine ⟨⟨Agree.append (Agree.cons ?_ (Agree.cons ?_ (Agree.nil _))) a1, fun y h => ?_⟩,
      ⟨Agree.append (Agree.cons ?_ (Agree.nil _)) a2, fun y h => ?_⟩, ⟨Agree.append (Agree.cons ?_ (Agree.nil _)) a3, fun y h => ?_⟩⟩
    · exact tile4_1408 1 (by omega) o n ho hk j1 _ (fun q r c => Spec.q1 (tokK x1 x2 x3 x4 x5 x6 x7 ⟨q.val * 256 + r.val, by omega⟩) c) _ (fun y => rfl)
        fun r a => by exact pay41_at ⟨n, hk⟩ (fun c p => Spec.z (tokK x1 x2 x3 x4 x5 x6 x7 p) c) v76 v80 hz r a
    · exact tile4_1408 0 (by omega) o n ho hk j2 _ (fun q r c => Spec.q1 (tokK x1 x2 x3 x4 x5 x6 x7 ⟨q.val * 256 + r.val, by omega⟩) c) _ (fun y => rfl)
        fun r a => by simp only [Nat.zero_mul, Nat.zero_add]; exact pay40_at ⟨n, hk⟩ (fun c p => Spec.z (tokK x1 x2 x3 x4 x5 x6 x7 p) c) v76 v80 hz r a
    · by_cases h' : (y 3).val < n * 128
      · exact Cov.right (c1 y h')
      · have h0 : (y 0).val < 2 := (y 0).isLt
        by_cases hq : (y 0).val = 1
        · exact Cov.left (Cov.here (mem4_1408 1 o j1 y hq (by omega) (by omega)))
        · exact Cov.left (Cov.there (Cov.here (mem4_1408 0 o j2 y (by omega) (by omega) (by omega))))
    · exact tile2_1408 o n ho hk j3 _ _ (fun a p => Spec.deq 44 (Spec.z (tokK x1 x2 x3 x4 x5 x6 x7 p)) a) (fun y => rfl)
        fun a p => pay37_at ⟨n, hk⟩ (fun c p => Spec.z (tokK x1 x2 x3 x4 x5 x6 x7 p) c) v76 v80 hz a p
    · by_cases h' : (y 0).val < n * 128
      · exact Cov.right (c2 y h')
      · exact Cov.left (Cov.here (mem2_1408 o j3 y (by omega) (by omega)))
    · exact tile3_4 o' n ho' hk j4 _ _ (fun b a p => Spec.sc1 (tokK x1 x2 x3 x4 x5 x6 x7 p) ⟨b.val * 4 + a.val, by omega⟩) (fun y => rfl)
        fun a p => pay38_at ⟨n, hk⟩ (fun c p => Spec.z (tokK x1 x2 x3 x4 x5 x6 x7 p) c) v76 v80 hz a p
    · by_cases h' : (y 0).val < n
      · exact Cov.right (c3 y h')
      · exact Cov.left (Cov.here (mem3_4 o' j4 y (by omega)))

theorem pb4 (X13 : BufTy.Contents (Elt Ideal) arg13.view.ty)
    (hX : ∀ (a : Fin 1408) (p : Fin 512), arg13.view.read (Elt Ideal) X13 (ix2 a p) = Spec.deq 44 (Spec.z (tokK x1 x2 x3 x4 x5 x6 x7 p)) a) (n : ℕ) (hn : n ≤ 11) :
    (Agree (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 n).1 (G11 x1 x2 x3 x4 x5 x6 x7) ∧ ∀ y : S2x1x256x5632.Idx, (y 3).val < n * 512 → Cov (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 n).1 y)
    ∧ (Agree (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 n).2.1 (G14 x1 x2 x3 x4 x5 x6 x7) ∧ ∀ y : S5632x512.Idx, (y 0).val < n * 512 → Cov (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 n).2.1 y)
    ∧ (Agree (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 n).2.2 (G16 x1 x2 x3 x4 x5 x6 x7) ∧ ∀ y : S11x16x512.Idx, (y 0).val < n → Cov (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 n).2.2 y) := by
  induction n with
  | zero => exact ⟨⟨Agree.nil _, fun y h => absurd h (by omega)⟩, ⟨Agree.nil _, fun y h => absurd h (by omega)⟩, ⟨Agree.nil _, fun y h => absurd h (by omega)⟩⟩
  | succ n ih =>
    obtain ⟨⟨a1, c1⟩, ⟨a2, c2⟩, ⟨a3, c3⟩⟩ := ih (by omega)
    have hs := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 ⟨n, Nat.lt_of_lt_of_eq (Nat.lt_of_succ_le hn) trips4.symm⟩
    obtain ⟨v71, r, o, o', hr, hh, ho, ho', j1, j2, j3, j4, ht⟩ := trip4_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 X13 hX ⟨n, Nat.lt_of_lt_of_eq (Nat.lt_of_succ_le hn) trips4.symm⟩ hn
    rw [ht] at hs
    replace ho : o = n * 512 := ho
    replace ho' : o' = n := ho'
    have hk : n < 11 := hn
    have e : pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 (n + 1) = _ := hs
    rw [e]
    refine ⟨⟨Agree.append (Agree.cons ?_ (Agree.cons ?_ (Agree.nil _))) a1, fun y h => ?_⟩,
      ⟨Agree.append (Agree.cons ?_ (Agree.nil _)) a2, fun y h => ?_⟩, ⟨Agree.append (Agree.cons ?_ (Agree.nil _)) a3, fun y h => ?_⟩⟩
    · exact tile4_5632 1 (by omega) o n ho hk j1 _ (fun q r c => Spec.q2 (tokK x1 x2 x3 x4 x5 x6 x7 ⟨q.val * 256 + r.val, by omega⟩) c) _ (fun y => rfl)
        fun s a => by exact pay44_at ⟨n, hk⟩ (fun c p => Spec.h (tokK x1 x2 x3 x4 x5 x6 x7 p) c) v71 r hr hh s a
    · exact tile4_5632 0 (by omega) o n ho hk j2 _ (fun q r c => Spec.q2 (tokK x1 x2 x3 x4 x5 x6 x7 ⟨q.val * 256 + r.val, by omega⟩) c) _ (fun y => rfl)
        fun s a => by simp only [Nat.zero_mul, Nat.zero_add]; exact pay43_at ⟨n, hk⟩ (fun c p => Spec.h (tokK x1 x2 x3 x4 x5 x6 x7 p) c) v71 r hr hh s a
    · by_cases h' : (y 3).val < n * 512
      · exact Cov.right (c1 y h')
      · have h0 : (y 0).val < 2 := (y 0).isLt
        by_cases hq : (y 0).val = 1
        · exact Cov.left (Cov.here (mem4_5632 1 o j1 y hq (by omega) (by omega)))
        · exact Cov.left (Cov.there (Cov.here (mem4_5632 0 o j2 y (by omega) (by omega) (by omega))))
    · exact tile2_5632 o n ho hk j3 _ _ (fun a p => Spec.deq 176 (Spec.h (tokK x1 x2 x3 x4 x5 x6 x7 p)) a) (fun y => rfl)
        fun a p => pay26_at ⟨n, hk⟩ (fun c p => Spec.h (tokK x1 x2 x3 x4 x5 x6 x7 p) c) v71 r hr hh a p
    · by_cases h' : (y 0).val < n * 512
      · exact Cov.right (c2 y h')
      · exact Cov.left (Cov.here (mem2_5632 o j3 y (by omega) (by omega)))
    · exact tile3_16 o' n ho' hk j4 _ _ (fun b a p => Spec.sc2 (tokK x1 x2 x3 x4 x5 x6 x7 p) ⟨b.val * 16 + a.val, by omega⟩) (fun y => rfl)
        fun a p => pay27_at ⟨n, hk⟩ (fun c p => Spec.h (tokK x1 x2 x3 x4 x5 x6 x7 p) c) v71 r hr hh a p
    · by_cases h' : (y 0).val < n
      · exact Cov.right (c3 y h')
      · exact Cov.left (Cov.here (mem3_16 o' j4 y (by omega)))

theorem pb5 (X14 : BufTy.Contents (Elt Ideal) arg14.view.ty)
    (hX : ∀ (a : Fin 5632) (p : Fin 512), arg14.view.read (Elt Ideal) X14 (ix2 a p) = Spec.deq 176 (Spec.h (tokK x1 x2 x3 x4 x5 x6 x7 p)) a) (n : ℕ) (hn : n ≤ 11) :
    Agree (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg4.unread x4) (harg7.unread x7) X14 n) (G8 x1 x2 x3 x4 x5 x6 x7) ∧ ∀ y : S2x1x256x1408.Idx, (y 3).val < n * 128 → Cov (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg4.unread x4) (harg7.unread x7) X14 n) y := by
  induction n with
  | zero => exact ⟨Agree.nil _, fun y h => absurd h (by omega)⟩
  | succ n ih =>
    obtain ⟨a1, c1⟩ := ih (by omega)
    have hs := pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg4.unread x4) (harg7.unread x7) X14 ⟨n, Nat.lt_of_lt_of_eq (Nat.lt_of_succ_le hn) trips5.symm⟩
    obtain ⟨w1, w0, o, h1, h0, ho, j1, j2, ht⟩ := trip5_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 X14 hX ⟨n, Nat.lt_of_lt_of_eq (Nat.lt_of_succ_le hn) trips5.symm⟩ hn
    rw [ht] at hs
    replace ho : o = n * 128 := ho
    have hk : n < 11 := hn
    have e : pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg4.unread x4) (harg7.unread x7) X14 (n + 1) = _ := hs
    rw [e]
    refine ⟨Agree.append (Agree.cons ?_ (Agree.cons ?_ (Agree.nil _))) a1, fun y h => ?_⟩
    · exact tile4_1408 1 (by omega) o n ho hk j1 w1 (fun q r c => Spec.out (tokK x1 x2 x3 x4 x5 x6 x7 ⟨q.val * 256 + r.val, by omega⟩) c) _ (fun y => rfl)
        fun s a => (h1 s a).trans (by rfl)
    · exact tile4_1408 0 (by omega) o n ho hk j2 w0 (fun q r c => Spec.out (tokK x1 x2 x3 x4 x5 x6 x7 ⟨q.val * 256 + r.val, by omega⟩) c) _ (fun y => rfl)
        fun s a => (h0 s a).trans (by simp only [Nat.zero_mul, Nat.zero_add])
    · by_cases h' : (y 3).val < n * 128
      · exact Cov.right (c1 y h')
      · have h0 : (y 0).val < 2 := (y 0).isLt
        by_cases hq : (y 0).val = 1
        · exact Cov.left (Cov.here (mem4_1408 1 o j1 y hq (by omega) (by omega)))
        · exact Cov.left (Cov.there (Cov.here (mem4_1408 0 o j2 y (by omega) (by omega) (by omega))))

end
end Cert.KernelIdeal.V
-- ==== Proof.KOut.lean ====
/-
  WHAT THE BODY LEAVES in each output: the loops put together.
-/
module
public import proofs.«01_k».proof.Proof.KLoops

@[expose] public section

set_option maxRecDepth 16384
set_option maxHeartbeats 2000000
noncomputable section
open Idealize.ShloMosaic Idealize.ShloMosaic.TcCoe Idealize.SL.Sem Idealize.ShloMosaic.Tactic
namespace Cert.KernelIdeal.V
open Cert.KernelIdeal Cert.KernelIdeal.Gen

/-- The scales of the first quantisation, by row and block … -/
def G10 (x1 : Vec Ideal S176x2x16x128 .f32) (x2 : Vec Ideal S2x1x256x1408 .bf16) (x3 : Vec Ideal S5632x1408 .fp8e4m3) (x4 : Vec Ideal S1408x5632 .fp8e4m3) (x5 : Vec Ideal S3x1408x128 .f32) (x6 : Vec Ideal S2x5632x128 .f32) (x7 : Vec Ideal S3x1x1408 .f32) (y : S2x1x256x44.Idx) : EReal := Spec.sc1 (tokK x1 x2 x3 x4 x5 x6 x7 ⟨(y 0).val * 256 + (y 2).val, by have h0 : (y 0).val < 2 := (y 0).isLt; have h2 : (y 2).val < 256 := (y 2).isLt; omega⟩) (y 3)
/-- … and of the second. -/
def G12 (x1 : Vec Ideal S176x2x16x128 .f32) (x2 : Vec Ideal S2x1x256x1408 .bf16) (x3 : Vec Ideal S5632x1408 .fp8e4m3) (x4 : Vec Ideal S1408x5632 .fp8e4m3) (x5 : Vec Ideal S3x1408x128 .f32) (x6 : Vec Ideal S2x5632x128 .f32) (x7 : Vec Ideal S3x1x1408 .f32) (y : S2x1x256x176.Idx) : EReal := Spec.sc2 (tokK x1 x2 x3 x4 x5 x6 x7 ⟨(y 0).val * 256 + (y 2).val, by have h0 : (y 0).val < 2 := (y 0).isLt; have h2 : (y 2).val < 256 := (y 2).isLt; omega⟩) (y 3)

/-- A [1,1,256,44] tile of an array of 2 image groups, 256 rows and 44 scales. -/
theorem tile4_44 (q : ℕ) (hq : q < 2) (inb) (w : S1x1x256x44.Idx → EReal)
    (F : Fin 2 → Fin 256 → Fin 44 → EReal) (G : S2x1x256x44.Idx → EReal) (hG : ∀ y, G y = F (y 0) (y 2) (y 3))
    (h : ∀ r a, w (ix4 0 0 r a) = F ⟨q, hq⟩ r a) :
    ∀ x : (Rect.unit (s := S2x1x256x44) ![q, 0, 0, 0] ![1, 1, 256, 44] inb).shape.Idx,
      w x = G ((Rect.unit (s := S2x1x256x44) ![q, 0, 0, 0] ![1, 1, 256, 44] inb).emb x) := by
  refine piece_agree (S := S2x1x256x44) (e := .f32) w ?_
  intro (x : S1x1x256x44.Idx) j hj
  idx_vars x
  have h0 : (j 0).val = q := by have := hj 0; simpa [ix4] using this
  have h2 : (j 2).val = x2.val := by have := hj 2; simpa [ix4] using this
  have h3 : (j 3).val = x3.val := by have := hj 3; simpa [ix4] using this
  rw [hG, ← show (⟨q, hq⟩ : Fin 2) = j 0 from Fin.ext h0.symm, ← show x2 = j 2 from Fin.ext h2.symm,
    ← show x3 = j 3 from Fin.ext h3.symm, ← h]
  congr 1
  funext d; fin_cases d <;> first | rfl | exact Subsingleton.elim (α := Fin 1) _ _
theorem mem4_44 (q : ℕ) (inb) (y : S2x1x256x44.Idx) (h0 : (y 0).val = q) :
    y ∈ (Rect.unit (s := S2x1x256x44) ![q, 0, 0, 0] ![1, 1, 256, 44] inb).set := by
  rw [Rect.mem_set_unit]
  have h1 : (y 1).val < 1 := (y 1).isLt
  have h2 : (y 2).val < 256 := (y 2).isLt
  have h3 : (y 3).val < 44 := (y 3).isLt
  intro d; fin_cases d <;> simp <;> omega

/-- A [1,1,256,176] tile of an array of 2 image groups, 256 rows and 176 scales. -/
theorem tile4_176 (q : ℕ) (hq : q < 2) (inb) (w : S1x1x256x176.Idx → EReal)
    (F : Fin 2 → Fin 256 → Fin 176 → EReal) (G : S2x1x256x176.Idx → EReal) (hG : ∀ y, G y = F (y 0) (y 2) (y 3))
    (h : ∀ r a, w (ix4 0 0 r a) = F ⟨q, hq⟩ r a) :
    ∀ x : (Rect.unit (s := S2x1x256x176) ![q, 0, 0, 0] ![1, 1, 256, 176] inb).shape.Idx,
      w x = G ((Rect.unit (s := S2x1x256x176) ![q, 0, 0, 0] ![1, 1, 256, 176] inb).emb x) := by
  refine piece_agree (S := S2x1x256x176) (e := .f32) w ?_
  intro (x : S1x1x256x176.Idx) j hj
  idx_vars x
  have h0 : (j 0).val = q := by have := hj 0; simpa [ix4] using this
  have h2 : (j 2).val = x2.val := by have := hj 2; simpa [ix4] using this
  have h3 : (j 3).val = x3.val := by have := hj 3; simpa [ix4] using this
  rw [hG, ← show (⟨q, hq⟩ : Fin 2) = j 0 from Fin.ext h0.symm, ← show x2 = j 2 from Fin.ext h2.symm,
    ← show x3 = j 3 from Fin.ext h3.symm, ← h]
  congr 1
  funext d; fin_cases d <;> first | rfl | exact Subsingleton.elim (α := Fin 1) _ _
theorem mem4_176 (q : ℕ) (inb) (y : S2x1x256x176.Idx) (h0 : (y 0).val = q) :
    y ∈ (Rect.unit (s := S2x1x256x176) ![q, 0, 0, 0] ![1, 1, 256, 176] inb).set := by
  rw [Rect.mem_set_unit]
  have h1 : (y 1).val < 1 := (y 1).isLt
  have h2 : (y 2).val < 256 := (y 2).isLt
  have h3 : (y 3).val < 176 := (y 3).isLt
  intro d; fin_cases d <;> simp <;> omega

section
variable (x1 : Vec Ideal S176x2x16x128 .f32) (x2 : Vec Ideal S2x1x256x1408 .bf16) (x3 : Vec Ideal S5632x1408 .fp8e4m3) (x4 : Vec Ideal S1408x5632 .fp8e4m3) (x5 : Vec Ideal S3x1408x128 .f32) (x6 : Vec Ideal S2x5632x128 .f32) (x7 : Vec Ideal S3x1x1408 .f32)

/-- The two pieces of the scales' block, from the scales by trip. -/
theorem read_sc44 {κ : _} {sp : _} (v : View sig κ sp S2x1x256x44 .f32) (f : v.ty.Contents (Elt Ideal)) (i1) (i0) (Z : Vec Ideal S11x4x512 .f32)
    (hZ : Z = G15 x1 x2 x3 x4 x5 x6 x7) :
    v.read (Elt Ideal) (v.writes (Elt Ideal) f
      [⟨Rect.unit (s := S2x1x256x44) ![1, 0, 0, 0] ![1, 1, 256, 44] i1, k0_pay2 (k0_pay46 Z)⟩, ⟨Rect.unit (s := S2x1x256x44) ![0, 0, 0, 0] ![1, 1, 256, 44] i0, k0_pay1 (k0_pay47 Z)⟩]) = G10 x1 x2 x3 x4 x5 x6 x7 := by
  funext y
  refine read_of v f _ (G10 x1 x2 x3 x4 x5 x6 x7) (Agree.cons ?_ (Agree.cons ?_ (Agree.nil _))) y ?_
  · exact tile4_44 1 (by omega) i1 _ (fun q r b => Spec.sc1 (tokK x1 x2 x3 x4 x5 x6 x7 ⟨q.val * 256 + r.val, by omega⟩) b) _ (fun y => rfl)
      fun r b => by
        refine (s1_hi Z r b).trans ?_
        rw [hZ]
        show Spec.sc1 (tokK x1 x2 x3 x4 x5 x6 x7 ⟨256 + r.val, _⟩) ⟨b.val / 4 * 4 + b.val % 4, _⟩ = _
        congr 1
        exact Fin.ext (Nat.div_add_mod' b.val 4)
  · exact tile4_44 0 (by omega) i0 _ (fun q r b => Spec.sc1 (tokK x1 x2 x3 x4 x5 x6 x7 ⟨q.val * 256 + r.val, by omega⟩) b) _ (fun y => rfl)
      fun r b => by
        refine (s1_lo Z r b).trans ?_
        rw [hZ]
        show Spec.sc1 (tokK x1 x2 x3 x4 x5 x6 x7 ⟨r.val, _⟩) ⟨b.val / 4 * 4 + b.val % 4, _⟩ = _
        have e : (⟨b.val / 4 * 4 + b.val % 4, by omega⟩ : Fin 44) = b := Fin.ext (Nat.div_add_mod' b.val 4)
        simp only [Nat.zero_mul, Nat.zero_add, e]
  · have h0 : (y 0).val < 2 := (y 0).isLt
    by_cases hq : (y 0).val = 1
    · exact Cov.here (mem4_44 1 i1 y hq)
    · exact Cov.there (Cov.here (mem4_44 0 i0 y (by omega)))

/-- The two pieces of the scales' block, from the scales by trip. -/
theorem read_sc176 {κ : _} {sp : _} (v : View sig κ sp S2x1x256x176 .f32) (f : v.ty.Contents (Elt Ideal)) (i1) (i0) (Z : Vec Ideal S11x16x512 .f32)
    (hZ : Z = G16 x1 x2 x3 x4 x5 x6 x7) :
    v.read (Elt Ideal) (v.writes (Elt Ideal) f
      [⟨Rect.unit (s := S2x1x256x176) ![1, 0, 0, 0] ![1, 1, 256, 176] i1, k0_pay5 Z⟩, ⟨Rect.unit (s := S2x1x256x176) ![0, 0, 0, 0] ![1, 1, 256, 176] i0, k0_pay4 Z⟩]) = G12 x1 x2 x3 x4 x5 x6 x7 := by
  funext y
  refine read_of v f _ (G12 x1 x2 x3 x4 x5 x6 x7) (Agree.cons ?_ (Agree.cons ?_ (Agree.nil _))) y ?_
  · exact tile4_176 1 (by omega) i1 _ (fun q r b => Spec.sc2 (tokK x1 x2 x3 x4 x5 x6 x7 ⟨q.val * 256 + r.val, by omega⟩) b) _ (fun y => rfl)
      fun r b => by
        refine (s2_hi Z r b).trans ?_
        rw [hZ]
        show Spec.sc2 (tokK x1 x2 x3 x4 x5 x6 x7 ⟨256 + r.val, _⟩) ⟨b.val / 16 * 16 + b.val % 16, _⟩ = _
        congr 1
        exact Fin.ext (Nat.div_add_mod' b.val 16)
  · exact tile4_176 0 (by omega) i0 _ (fun q r b => Spec.sc2 (tokK x1 x2 x3 x4 x5 x6 x7 ⟨q.val * 256 + r.val, by omega⟩) b) _ (fun y => rfl)
      fun r b => by
        refine (s2_lo Z r b).trans ?_
        rw [hZ]
        show Spec.sc2 (tokK x1 x2 x3 x4 x5 x6 x7 ⟨r.val, _⟩) ⟨b.val / 16 * 16 + b.val % 16, _⟩ = _
        have e : (⟨b.val / 16 * 16 + b.val % 16, by omega⟩ : Fin 176) = b := Fin.ext (Nat.div_add_mod' b.val 16)
        simp only [Nat.zero_mul, Nat.zero_add, e]
  · have h0 : (y 0).val < 2 := (y 0).isLt
    by_cases hq : (y 0).val = 1
    · exact Cov.here (mem4_176 1 i1 y hq)
    · exact Cov.there (Cov.here (mem4_176 0 i0 y (by omega)))

end
section
variable (𝒱 : Variants) (c : Dev nD) (bd : Option 𝒱.V) (i : grid0.Coords) (arg1 : Memref sig .tc .vmem S176x2x16x128 .f32) (harg1 : arg1.IsWhole) (arg2 : Memref sig .tc .vmem S2x1x256x1408 .bf16) (harg2 : arg2.IsWhole) (arg3 : Memref sig .tc .vmem S5632x1408 .fp8e4m3) (harg3 : arg3.IsWhole) (arg4 : Memref sig .tc .vmem S1408x5632 .fp8e4m3) (harg4 : arg4.IsWhole) (arg5 : Memref sig .tc .vmem S3x1408x128 .f32) (harg5 : arg5.IsWhole) (arg6 : Memref sig .tc .vmem S2x5632x128 .f32) (harg6 : arg6.IsWhole) (arg7 : Memref sig .tc .vmem S3x1x1408 .f32) (harg7 : arg7.IsWhole) (arg8 : Memref sig .tc .vmem S2x1x256x1408 .bf16) (harg8 : arg8.IsWhole) (arg9 : Memref sig .tc .vmem S2x1x256x1408 .fp8e4m3) (harg9 : arg9.IsWhole) (arg10 : Memref sig .tc .vmem S2x1x256x44 .f32) (harg10 : arg10.IsWhole) (arg11 : Memref sig .tc .vmem S2x1x256x5632 .fp8e4m3) (harg11 : arg11.IsWhole) (arg12 : Memref sig .tc .vmem S2x1x256x176 .f32) (harg12 : arg12.IsWhole) (arg13 : Memref sig .tc .vmem S1408x512 .bf16) (harg13 : arg13.IsWhole) (arg14 : Memref sig .tc .vmem S5632x512 .bf16) (harg14 : arg14.IsWhole) (arg15 : Memref sig .tc .vmem S11x4x512 .f32) (harg15 : arg15.IsWhole) (arg16 : Memref sig .tc .vmem S11x16x512 .f32) (harg16 : arg16.IsWhole)
  (x1 : Vec Ideal S176x2x16x128 .f32) (x2 : Vec Ideal S2x1x256x1408 .bf16) (x3 : Vec Ideal S5632x1408 .fp8e4m3)
  (x4 : Vec Ideal S1408x5632 .fp8e4m3) (x5 : Vec Ideal S3x1408x128 .f32) (x6 : Vec Ideal S2x5632x128 .f32)
  (x7 : Vec Ideal S3x1x1408 .f32)
  (n1 n2 n3 n4 n5 : ℕ) (e1 : n1 = 11) (e2 : n2 = 11) (e3 : n3 = 11) (e4 : n4 = 11) (e5 : n5 = 11)
  (v2 v8 : FVec Ideal S8x512 .f32)
  (h2 : v2 = st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg5.unread x5) (k0_pay31 (F := Ideal)) n1)
  (h8 : v8 = st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 (harg1.unread x1) (harg5.unread x5) (k0_pay31 (F := Ideal)) n2)

include h2 h8 e1 e2 e3 in
/-- The first quantisation's codes. -/
theorem out9 (f : BufTy.Contents (Elt Ideal) arg9.view.ty) :
    arg9.view.read (Elt Ideal) (arg9.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) n3).1) = G9 x1 x2 x3 x4 x5 x6 x7 := by
  have h := (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 v8 (mean_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 (e1 ▸ h2)) (rs_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 v8 (e1 ▸ h2) (e2 ▸ h8)) n3 (le_of_eq e3)).1
  funext y
  exact read_of _ _ _ _ h.1 y (h.2 y (by have h : (y 3).val < 1408 := (y 3).isLt; omega))

include h2 h8 e1 e2 e3 in
theorem sc15 (f : BufTy.Contents (Elt Ideal) arg15.view.ty) :
    arg15.view.read (Elt Ideal) (arg15.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) n3).2.2) = G15 x1 x2 x3 x4 x5 x6 x7 := by
  have h := (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 v8 (mean_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 (e1 ▸ h2)) (rs_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 v8 (e1 ▸ h2) (e2 ▸ h8)) n3 (le_of_eq e3)).2.2
  funext y
  exact read_of _ _ _ _ h.1 y (h.2 y (by have h : (y 0).val < 11 := (y 0).isLt; omega))

variable (X13 : BufTy.Contents (Elt Ideal) arg13.view.ty) (f13 : BufTy.Contents (Elt Ideal) arg13.view.ty)
  (h13 : X13 = arg13.view.writes (Elt Ideal) f13 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 v8 (harg1.unread x1) (harg5.unread x5) n3).2.1)
include h2 h8 e1 e2 e3 h13 in
theorem read13 (a : Fin 1408) (p : Fin 512) : arg13.view.read (Elt Ideal) X13 (ix2 a p) = Spec.deq 44 (Spec.z (tokK x1 x2 x3 x4 x5 x6 x7 p)) a := by
  have h := (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 v8 (mean_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 (e1 ▸ h2)) (rs_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 v2 v8 (e1 ▸ h2) (e2 ▸ h8)) n3 (le_of_eq e3)).2.1
  rw [h13]
  exact read_of _ _ _ _ h.1 (ix2 a p) (h.2 _ (by show a.val < _; omega))

include h2 h8 e1 e2 e3 h13 e4 in
/-- The second quantisation's codes. -/
theorem out11 (f : BufTy.Contents (Elt Ideal) arg11.view.ty) :
    arg11.view.read (Elt Ideal) (arg11.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 n4).1) = G11 x1 x2 x3 x4 x5 x6 x7 := by
  have h := (pb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 X13 (read13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 n1 n2 n3 e1 e2 e3 v2 v8 h2 h8 X13 f13 h13) n4 (le_of_eq e4)).1
  funext y
  exact read_of _ _ _ _ h.1 y (h.2 y (by have h : (y 3).val < 5632 := (y 3).isLt; omega))

include h2 h8 e1 e2 e3 h13 e4 in
theorem sc16 (f : BufTy.Contents (Elt Ideal) arg16.view.ty) :
    arg16.view.read (Elt Ideal) (arg16.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 n4).2.2) = G16 x1 x2 x3 x4 x5 x6 x7 := by
  have h := (pb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 X13 (read13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 n1 n2 n3 e1 e2 e3 v2 v8 h2 h8 X13 f13 h13) n4 (le_of_eq e4)).2.2
  funext y
  exact read_of _ _ _ _ h.1 y (h.2 y (by have h : (y 0).val < 11 := (y 0).isLt; omega))

variable (X14 : BufTy.Contents (Elt Ideal) arg14.view.ty) (f14 : BufTy.Contents (Elt Ideal) arg14.view.ty)
  (h14 : X14 = arg14.view.writes (Elt Ideal) f14 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg6.unread x6) X13 n4).2.1)
include h2 h8 e1 e2 e3 h13 e4 h14 in
theorem read14 (a : Fin 5632) (p : Fin 512) : arg14.view.read (Elt Ideal) X14 (ix2 a p) = Spec.deq 176 (Spec.h (tokK x1 x2 x3 x4 x5 x6 x7 p)) a := by
  have h := (pb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 X13 (read13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 n1 n2 n3 e1 e2 e3 v2 v8 h2 h8 X13 f13 h13) n4 (le_of_eq e4)).2.1
  rw [h14]
  exact read_of _ _ _ _ h.1 (ix2 a p) (h.2 _ (by show a.val < _; omega))

include h2 h8 e1 e2 e3 h13 e4 h14 e5 in
/-- The block's result. -/
theorem out8 (f : BufTy.Contents (Elt Ideal) arg8.view.ty) :
    arg8.view.read (Elt Ideal) (arg8.view.writes (Elt Ideal) f (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg4.unread x4) (harg7.unread x7) X14 n5)) = G8 x1 x2 x3 x4 x5 x6 x7 := by
  have h := pb5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 X14 (read14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 n1 n2 n3 n4 e1 e2 e3 e4 v2 v8 h2 h8 X13 f13 h13 X14 f14 h14) n5 (le_of_eq e5)
  funext y
  exact read_of _ _ _ _ h.1 y (h.2 y (by have h : (y 3).val < 1408 := (y 3).isLt; omega))
end
end Cert.KernelIdeal.V
-- ==== Proof.KRun.lean ====
/-
  THE KERNEL'S BODY at the extended reals: the triple of one grid point, with what it leaves in each output.
-/
module
public import proofs.«01_k».proof.Proof.KOut
public import Idealize.ShloMosaic.Lib.WritesUnit

@[expose] public section

set_option maxRecDepth 16384
noncomputable section
namespace Cert.KernelIdeal.V
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 2000000 in
/-- The body's triple: from the inputs' blocks, every output's block at the functions of them. -/
theorem kernelRun (c : Dev nD) (i : grid0.Coords) (arg1 : Memref sig .tc .vmem S176x2x16x128 .f32) (harg1 : arg1.IsWhole) (arg2 : Memref sig .tc .vmem S2x1x256x1408 .bf16) (harg2 : arg2.IsWhole) (arg3 : Memref sig .tc .vmem S5632x1408 .fp8e4m3) (harg3 : arg3.IsWhole) (arg4 : Memref sig .tc .vmem S1408x5632 .fp8e4m3) (harg4 : arg4.IsWhole) (arg5 : Memref sig .tc .vmem S3x1408x128 .f32) (harg5 : arg5.IsWhole) (arg6 : Memref sig .tc .vmem S2x5632x128 .f32) (harg6 : arg6.IsWhole) (arg7 : Memref sig .tc .vmem S3x1x1408 .f32) (harg7 : arg7.IsWhole) (arg8 : Memref sig .tc .vmem S2x1x256x1408 .bf16) (harg8 : arg8.IsWhole) (arg9 : Memref sig .tc .vmem S2x1x256x1408 .fp8e4m3) (harg9 : arg9.IsWhole) (arg10 : Memref sig .tc .vmem S2x1x256x44 .f32) (harg10 : arg10.IsWhole) (arg11 : Memref sig .tc .vmem S2x1x256x5632 .fp8e4m3) (harg11 : arg11.IsWhole) (arg12 : Memref sig .tc .vmem S2x1x256x176 .f32) (harg12 : arg12.IsWhole) (arg13 : Memref sig .tc .vmem S1408x512 .bf16) (harg13 : arg13.IsWhole) (arg14 : Memref sig .tc .vmem S5632x512 .bf16) (harg14 : arg14.IsWhole) (arg15 : Memref sig .tc .vmem S11x4x512 .f32) (harg15 : arg15.IsWhole) (arg16 : Memref sig .tc .vmem S11x16x512 .f32) (harg16 : arg16.IsWhole)
    (x0 : Vec Ideal S176x2x16x128 .f32) (x1 : Vec Ideal S2x1x256x1408 .bf16) (x2 : Vec Ideal S5632x1408 .fp8e4m3) (x3 : Vec Ideal S1408x5632 .fp8e4m3) (x4 : Vec Ideal S3x1408x128 .f32) (x5 : Vec Ideal S2x5632x128 .f32) (x6 : Vec Ideal S3x1x1408 .f32) :
      ∀ (E : Set ℕ) (K : PUnit → sProp (MT nD τ sig Unit (Elt Ideal) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (G8 x0 x1 x2 x3 x4 x5 x6) ∗ owns (c : Thread nD τ) arg9 fullShare (G9 x0 x1 x2 x3 x4 x5 x6) ∗ owns (c : Thread nD τ) arg10 fullShare (G10 x0 x1 x2 x3 x4 x5 x6) ∗ owns (c : Thread nD τ) arg11 fullShare (G11 x0 x1 x2 x3 x4 x5 x6) ∗ owns (c : Thread nD τ) arg12 fullShare (G12 x0 x1 x2 x3 x4 x5 x6) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := Ideal)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mlp_eq_skeleton]; unfold cc0_mlp_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      exact out8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 _ _ _ _ _ trips1 trips2 trips3 trips4 trips5 _ _ rfl rfl _ _ rfl _ _ rfl _
    isplitl [H8]
    · iexists _; isplitr; swap; · iexact H8
      ipureintro
      exact out9 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 _ _ _ trips1 trips2 trips3 _ _ rfl rfl _
    isplitl [H9]
    · iexists _; isplitr; swap; · iexact H9
      ipureintro
      sl_unfold_words
      refine read_sc44 x0 x1 x2 x3 x4 x5 x6 _ _ _ _ _ (Eq.trans ?_ (sc15 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 _ _ _ trips1 trips2 trips3 _ _ rfl rfl fs2))
      first | exact View.ld_unit_zero (by decide) _ _
    isplitl [H10]
    · iexists _; isplitr; swap; · iexact H10
      ipureintro
      exact out11 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 _ _ _ _ trips1 trips2 trips3 trips4 _ _ rfl rfl _ _ rfl _
    isplitl [H11]
    · iexists _; isplitr; swap; · iexact H11
      ipureintro
      sl_unfold_words
      refine read_sc176 x0 x1 x2 x3 x4 x5 x6 _ _ _ _ _ (Eq.trans ?_ (sc16 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 _ _ _ _ trips1 trips2 trips3 trips4 _ _ rfl rfl _ fs0 rfl fs3))
      first | exact View.ld_unit_zero (by decide) _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.V
-- ==== Proof.KFrame.lean ====
/-
  THE KERNEL'S RUN at the extended reals: what every grid point leaves in every output window, and the launch.
-/
module
public import proofs.«01_k».proof.Proof.KRun
public import Idealize.ShloMosaic.Lib.Claim

@[expose] public section

set_option maxRecDepth 16384
noncomputable section
namespace Cert.KernelIdeal.V
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)
/-- Each window's current staging memref at point `t`, spelled as the pipeline passes it (`bodyAt0`), and its wholeness. -/
abbrev ms0_0 (t : Fin cfg0.N) : Memref sig .tc .vmem S176x2x16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x256x1408 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5632x1408 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1408x5632 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1408x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x5632x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x1x1408 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1x256x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x1x256x1408 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x1x256x44 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x1x256x5632 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1x256x176 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1408x512 .bf16 := Memref.whole cc0_scratch0
abbrev scM0_1 : Memref sig .tc .vmem S5632x512 .bf16 := Memref.whole cc0_scratch1
abbrev scM0_2 : Memref sig .tc .vmem S11x4x512 .f32 := Memref.whole cc0_scratch2
abbrev scM0_3 : Memref sig .tc .vmem S11x16x512 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt Ideal) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What each point finds in its inputs and leaves in its outputs. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => G8 (iblk m c 0 t) (iblk m c 1 t) (iblk m c 2 t) (iblk m c 3 t) (iblk m c 4 t) (iblk m c 5 t) (iblk m c 6 t)
    | ⟨8, _⟩ => G9 (iblk m c 0 t) (iblk m c 1 t) (iblk m c 2 t) (iblk m c 3 t) (iblk m c 4 t) (iblk m c 5 t) (iblk m c 6 t)
    | ⟨9, _⟩ => G10 (iblk m c 0 t) (iblk m c 1 t) (iblk m c 2 t) (iblk m c 3 t) (iblk m c 4 t) (iblk m c 5 t) (iblk m c 6 t)
    | ⟨10, _⟩ => G11 (iblk m c 0 t) (iblk m c 1 t) (iblk m c 2 t) (iblk m c 3 t) (iblk m c 4 t) (iblk m c 5 t) (iblk m c 6 t)
    | ⟨11, _⟩ => G12 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem after0_7 (c : Dev nD) (t : Fin cfg0.N) : (dats m 0 c).after 7 t = G8 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = G9 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = G10 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = G11 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = G12 (iblk m c 0 t) (iblk m c 1 t) (iblk m c 2 t) (iblk m c 3 t) (iblk m c 4 t) (iblk m c 5 t) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The arguments end unchanged, and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.V
-- ==== Proof.TokA.lean ====
/-
  A TOKEN OF THE ARGUMENTS: token `T` of the 32768 (image by image, row by row), read out of the arrays themselves.
-/
module
public import proofs.«01_k».proof.Proof.Spec

@[expose] public section

noncomputable section
namespace Spec

/-- Token `T` is column `T % 128` of row parity `T / 128 % 2` of row pair and image quarter `T / 256 % 64` of image half
    `T / 16384`. -/
def tokA (a0 : Fin 176 → Fin 2048 → Fin 128 → EReal) (a1 : Fin 8 → Fin 4096 → Fin 1408 → EReal)
    (a2 a3 a4 : Fin 1408 → EReal) (a5 : Fin 1408 → Fin 5632 → EReal) (a6 a7 : Fin 5632 → EReal)
    (a8 : Fin 5632 → Fin 1408 → EReal) (a9 a10 a11 : Fin 1408 → EReal) (T : Fin 32768) : Tok where
  y c := a0 ⟨c.val / 8, by omega⟩ ⟨T.val / 128 % 2 * 1024 + T.val / 256 % 64 * 16 + T.val / 16384 * 8 + c.val % 8, by omega⟩ ⟨T.val % 128, by omega⟩
  dwb c := a2 c
  g c := a3 c
  b c := a4 c
  w1 c f := a5 c f
  s1 f := a6 f
  b1 f := a7 f
  w2 f c := a8 f c
  s2 c := a9 c
  b2 c := a10 c
  ls c := a11 c
  x c := a1 ⟨T.val / 4096, by omega⟩ ⟨T.val % 4096, by omega⟩ c

end Spec
end
-- ==== Proof.KTok.lean ====
/-
  THE TOKENS A GRID POINT WORKS ON: its input blocks are the arguments' tokens.
-/
module
public import proofs.«01_k».proof.Proof.KFrame
public import proofs.«01_k».proof.Proof.TokA
public import Idealize.ShloMosaic.Lib.Pointwise
public import Idealize.ShloMosaic.Lib.Pipeline.ValueKit

@[expose] public section

set_option maxRecDepth 16384
noncomputable section
namespace Cert.KernelIdeal.V
open Cert.KernelIdeal Cert.KernelIdeal.Gen
open Idealize.ShloMosaic Idealize.ShloMosaic.TcCoe Idealize.ShloMosaic.Tactic Idealize.SL.Sem
open Idealize.ShloMosaic.Pipeline (Dat Cfg Window)

section
variable {τ : Topo} {sig : RefSig} {Val : EltTy → Type} {x a b y : Ref sig .tc}
/-- An operation of three operands, each operand's contents at its own reference. -/
theorem nary3_result
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl
end

variable (m : (ℓ : Loc nD τ sig) → Buf (Elt Ideal) ℓ)

/-- The token of the arguments in core `c`'s memory. -/
def tokM (c : Dev nD) (T : Fin 32768) : Spec.Tok :=
  Spec.tokA (fun i j k => m (c.tc.loc main_arg0) (ix3 i j k)) (fun i j k => m (c.tc.loc main_arg1) (ix3 i j k))
    (fun i => m (c.tc.loc main_arg2) (ix1 i)) (fun i => m (c.tc.loc main_arg3) (ix1 i)) (fun i => m (c.tc.loc main_arg4) (ix1 i))
    (fun i j => m (c.tc.loc main_arg5) (ix2 i j)) (fun i => m (c.tc.loc main_arg6) (ix1 i)) (fun i => m (c.tc.loc main_arg7) (ix1 i))
    (fun i j => m (c.tc.loc main_arg8) (ix2 i j)) (fun i => m (c.tc.loc main_arg9) (ix1 i)) (fun i => m (c.tc.loc main_arg10) (ix1 i))
    (fun i => m (c.tc.loc main_arg11) (ix1 i)) T

theorem idx0 : ∀ t : Fin cfg0.N, win0_0.index t = ![0, 0, t.val, 0] := (by decide +kernel : ∀ t : Fin grid0.N, _)
theorem idx1 : ∀ t : Fin cfg0.N, win0_1.index t = ![0, t.val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)

theorem N_64 (t : Fin cfg0.N) : t.val < 64 := t.isLt

theorem blk0 (c : Dev nD) (t : Fin cfg0.N) (i : Fin 176) (j : Fin 2) (k : Fin 16) (l : Fin 128) :
    iblk m c 0 t (ix4 i j k l) = m (c.tc.loc main_arg0) (ix3 i ⟨j.val * 1024 + t.val * 16 + k.val, by have := N_64 t; omega⟩ l) := by
  have := N_64 t
  blk_point [iblk, V, idx0 t]
theorem blk1 (c : Dev nD) (t : Fin cfg0.N) (i : Fin 2) (k : Fin 256) (l : Fin 1408) :
    iblk m c 1 t (ix4 i 0 k l) = m (c.tc.loc main_arg1) (ix3 ⟨(i.val * 16384 + t.val * 256 + k.val) / 4096, by have := N_64 t; omega⟩ ⟨(i.val * 16384 + t.val * 256 + k.val) % 4096, by omega⟩ l) := by
  have := N_64 t
  blk_point [iblk, V, idx1 t]
theorem blk2 (c : Dev nD) (t : Fin cfg0.N) (i : Fin 5632) (l : Fin 1408) :
    iblk m c 2 t (ix2 i l) = m (c.tc.loc main_arg5) (ix2 l i) := by
  blk_point [iblk, V, idx2 t]
theorem blk3 (c : Dev nD) (t : Fin cfg0.N) (i : Fin 1408) (l : Fin 5632) :
    iblk m c 3 t (ix2 i l) = m (c.tc.loc main_arg8) (ix2 l i) := by
  blk_point [iblk, V, idx3 t]
section
set_option maxHeartbeats 2000000
/-- Three channel vectors, each over 128 lanes, stacked. -/
def cd (a b c : FVec Ideal S1408 .f32) : FVec Ideal S3x1408x128 .f32 :=
  concatenate S3x1408x128 0
    [⟨S1x1408x128, broadcastInDim S1x1408x128 ![1, 2] bcast_S1408x128_S1x1408x128_1_2 (broadcastInDim S1408x128 ![0, 1] bcast_S1408x1_S1408x128_0_1 (broadcastInDim S1408x1 ![0] bcast_S1408_S1408x1_0 a))⟩,
      ⟨S1x1408x128, broadcastInDim S1x1408x128 ![1, 2] bcast_S1408x128_S1x1408x128_1_2 (broadcastInDim S1408x128 ![0, 1] bcast_S1408x1_S1408x128_0_1 (broadcastInDim S1408x1 ![0] bcast_S1408_S1408x1_0 b))⟩,
      ⟨S1x1408x128, broadcastInDim S1x1408x128 ![1, 2] bcast_S1408x128_S1x1408x128_1_2 (broadcastInDim S1408x128 ![0, 1] bcast_S1408x1_S1408x128_0_1 (broadcastInDim S1408x1 ![0] bcast_S1408_S1408x1_0 c))⟩]
    concatenates_S1x1408x128_S1x1408x128_S1x1408x128_S3x1408x128_d0
/-- Three channel vectors stacked. -/
def nd (a b c : FVec Ideal S1408 .f32) : FVec Ideal S3x1x1408 .f32 :=
  broadcastInDim S3x1x1408 ![0, 2] bcast_S3x1408_S3x1x1408_0_2 (concatenate S3x1408 0
    [⟨S1x1408, broadcastInDim S1x1408 ![1] bcast_S1408_S1x1408_1 a⟩, ⟨S1x1408, broadcastInDim S1x1408 ![1] bcast_S1408_S1x1408_1 b⟩,
      ⟨S1x1408, broadcastInDim S1x1408 ![1] bcast_S1408_S1x1408_1 c⟩]
    concatenates_S1x1408_S1x1408_S1x1408_S3x1408_d0)
theorem cd_at (a b c : FVec Ideal S1408 .f32) (i : Fin 1408) (l : Fin 128) :
    cd a b c (ix3 0 i l) = a (ix1 i) ∧ cd a b c (ix3 1 i l) = b (ix1 i) ∧ cd a b c (ix3 2 i l) = c (ix1 i) := by
  refine ⟨?_, ?_, ?_⟩
  · pointwise [cd]
  · pointwise [cd]
  · pointwise [cd]
theorem nd_at (a b c : FVec Ideal S1408 .f32) (i : Fin 1408) :
    nd a b c (ix3 0 0 i) = a (ix1 i) ∧ nd a b c (ix3 1 0 i) = b (ix1 i) ∧ nd a b c (ix3 2 0 i) = c (ix1 i) := by
  refine ⟨?_, ?_, ?_⟩
  · pointwise [nd]
  · pointwise [nd]
  · pointwise [nd]
theorem V9_eq (c : Dev nD) : V m c main_v9 = cd (m (c.tc.loc main_arg2)) (m (c.tc.loc main_arg3)) (m (c.tc.loc main_arg4)) := by
  unfold V
  simp (disch := decide) only [StableHlo.after_cons, StableHlo.after_nil, StableHlo.unary_result', StableHlo.binary_result', StableHlo.reshape_result', nary3_result, StableHlo.unary_result_ne', StableHlo.binary_result_ne', StableHlo.reshape_result_ne', StableHlo.nary_result_ne']
  rfl
theorem V21_eq (c : Dev nD) : V m c main_v21 = nd (m (c.tc.loc main_arg9)) (m (c.tc.loc main_arg10)) (m (c.tc.loc main_arg11)) := by
  unfold V
  simp (disch := decide) only [StableHlo.after_cons, StableHlo.after_nil, StableHlo.unary_result', StableHlo.binary_result', StableHlo.reshape_result', nary3_result, StableHlo.unary_result_ne', StableHlo.binary_result_ne', StableHlo.reshape_result_ne', StableHlo.nary_result_ne']
  rfl
theorem V9 (c : Dev nD) (i : Fin 1408) (l : Fin 128) :
    V m c main_v9 (ix3 0 i l) = m (c.tc.loc main_arg2) (ix1 i) ∧ V m c main_v9 (ix3 1 i l) = m (c.tc.loc main_arg3) (ix1 i)
      ∧ V m c main_v9 (ix3 2 i l) = m (c.tc.loc main_arg4) (ix1 i) := by
  rw [V9_eq]; exact cd_at _ _ _ i l
theorem V16 (c : Dev nD) (i : Fin 5632) (l : Fin 128) :
    V m c main_v16 (ix3 0 i l) = m (c.tc.loc main_arg6) (ix1 i) ∧ V m c main_v16 (ix3 1 i l) = m (c.tc.loc main_arg7) (ix1 i) := by
  entry_read
  refine ⟨?_, ?_⟩
  · pointwise
  · pointwise
theorem V21 (c : Dev nD) (i : Fin 1408) :
    V m c main_v21 (ix3 0 0 i) = m (c.tc.loc main_arg9) (ix1 i) ∧ V m c main_v21 (ix3 1 0 i) = m (c.tc.loc main_arg10) (ix1 i)
      ∧ V m c main_v21 (ix3 2 0 i) = m (c.tc.loc main_arg11) (ix1 i) := by
  rw [V21_eq]; exact nd_at _ _ _ i
theorem blk4 (c : Dev nD) (t : Fin cfg0.N) (a : Fin 3) (i : Fin 1408) (l : Fin 128) :
    iblk m c 4 t (ix3 a i l) = V m c main_v9 (ix3 a i l) := by
  blk_ext [iblk, idx4 t]
theorem blk5 (c : Dev nD) (t : Fin cfg0.N) (a : Fin 2) (i : Fin 5632) (l : Fin 128) :
    iblk m c 5 t (ix3 a i l) = V m c main_v16 (ix3 a i l) := by
  blk_ext [iblk, idx5 t]
theorem blk6 (c : Dev nD) (t : Fin cfg0.N) (a : Fin 3) (b : Fin 1) (i : Fin 1408) :
    iblk m c 6 t (ix3 a b i) = V m c main_v21 (ix3 a b i) := by
  blk_ext [iblk, idx6 t]
end

set_option maxHeartbeats 4000000 in
/-- The token in column `p` of the block at point `t`. -/
theorem tok_eq (c : Dev nD) (t : Fin cfg0.N) (p : Fin 512) :
    tokK (iblk m c 0 t) (iblk m c 1 t) (iblk m c 2 t) (iblk m c 3 t) (iblk m c 4 t) (iblk m c 5 t) (iblk m c 6 t) p
      = tokM m c ⟨p.val / 256 * 16384 + t.val * 256 + p.val % 256, by have := N_64 t; omega⟩ := by
  have hN := N_64 t
  refine Spec.Tok.ext ?_ ?_ ?_ ?_ ?_ ?_ ?_ ?_ ?_ ?_ ?_ ?_
  · funext k
    refine (blk0 m c t _ _ _ _).trans ?_
    refine congrArg (m (c.tc.loc main_arg0)) (congrArg₂ (fun (u : Fin 2048) (v : Fin 128) => ix3 _ u v) (Fin.ext ?_) (Fin.ext ?_)) <;> dsimp only <;> omega
  · funext k; exact (blk4 m c t 0 k ⟨p.val % 128, Nat.mod_lt _ (by omega)⟩).trans (V9 m c k ⟨p.val % 128, Nat.mod_lt _ (by omega)⟩).1
  · funext k; exact (blk4 m c t 1 k ⟨p.val % 128, Nat.mod_lt _ (by omega)⟩).trans (V9 m c k ⟨p.val % 128, Nat.mod_lt _ (by omega)⟩).2.1
  · funext k; exact (blk4 m c t 2 k ⟨p.val % 128, Nat.mod_lt _ (by omega)⟩).trans (V9 m c k ⟨p.val % 128, Nat.mod_lt _ (by omega)⟩).2.2
  · funext k f; exact blk2 m c t f k
  · funext k; exact (blk5 m c t 0 k ⟨p.val % 128, Nat.mod_lt _ (by omega)⟩).trans (V16 m c k ⟨p.val % 128, Nat.mod_lt _ (by omega)⟩).1
  · funext k; exact (blk5 m c t 1 k ⟨p.val % 128, Nat.mod_lt _ (by omega)⟩).trans (V16 m c k ⟨p.val % 128, Nat.mod_lt _ (by omega)⟩).2
  · funext k f; exact blk3 m c t f k
  · funext k; exact (blk6 m c t 0 0 k).trans (V21 m c k).1
  · funext k; exact (blk6 m c t 1 0 k).trans (V21 m c k).2.1
  · funext k; exact (blk6 m c t 2 0 k).trans (V21 m c k).2.2
  · funext k
    refine (blk1 m c t _ _ _).trans ?_
    refine congrArg (m (c.tc.loc main_arg1)) (congrArg₂ (fun (u : Fin 8) (v : Fin 4096) => ix3 u v k) (Fin.ext ?_) (Fin.ext ?_)) <;> dsimp only <;> omega

end Cert.KernelIdeal.V
-- ==== Proof.KFinal.lean ====
/-
  THE KERNEL'S RESULTS: every array the launch leaves, element by element.
-/
module
public import proofs.«01_k».proof.Proof.KTok

@[expose] public section

set_option maxRecDepth 16384
noncomputable section
namespace Cert.KernelIdeal.V
open Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ)

/-- The token at image half `q`, block `n` and row `r`. -/
abbrev flat (q : Fin 2) (n : Fin 64) (r : Fin 256) : Fin 32768 := ⟨q.val * 16384 + n.val * 256 + r.val, by omega⟩

theorem idx7 : ∀ t : Fin cfg0.N, win0_7.index t = ![0, t.val, 0, 0] := (by decide +kernel : ∀ t : Fin grid0.N, _)
set_option maxHeartbeats 2000000 in
/-- Result 1. -/
theorem final7 (c : Dev nD) : (dats m 0 c).arrAt 7 (cfgs 0).N
    = fun i : S2x64x256x1408.Idx => Spec.out (tokM m c (flat (i 0) (i 1) (i 2))) (i 3) := by
  refine (dats m 0 c).arrAt_eq_of_covers 7 _ (by decide +kernel) fun t _ y => ?_
  blk_simp
  rw [after0_7]
  have h0 : (y 0).val < 2 := (y 0).isLt
  have h1 : (y 1).val < 1 := (y 1).isLt
  have h2 : (y 2).val < 256 := (y 2).isLt
  have h3 : (y 3).val < 1408 := (y 3).isLt
  have hN := N_64 t
  refine (congrArg (fun T => Spec.out T (y 3)) (tok_eq m c t ⟨(y 0).val * 256 + (y 2).val, by omega⟩)).trans ?_
  dsimp only
  refine congrArg₂ (fun T k => Spec.out (tokM m c T) k) (Fin.ext ?_) (Fin.ext ?_)
  · dsimp only [flat]
    blk_simp [idx7 t]
    omega
  · blk_simp [idx7 t]

theorem idx8 : ∀ t : Fin cfg0.N, win0_8.index t = ![0, t.val, 0, 0] := (by decide +kernel : ∀ t : Fin grid0.N, _)
set_option maxHeartbeats 2000000 in
/-- Result 2. -/
theorem final8 (c : Dev nD) : (dats m 0 c).arrAt 8 (cfgs 0).N
    = fun i : S2x64x256x1408.Idx => Spec.q1 (tokM m c (flat (i 0) (i 1) (i 2))) (i 3) := by
  refine (dats m 0 c).arrAt_eq_of_covers 8 _ (by decide +kernel) fun t _ y => ?_
  blk_simp
  rw [after0_8]
  have h0 : (y 0).val < 2 := (y 0).isLt
  have h1 : (y 1).val < 1 := (y 1).isLt
  have h2 : (y 2).val < 256 := (y 2).isLt
  have h3 : (y 3).val < 1408 := (y 3).isLt
  have hN := N_64 t
  refine (congrArg (fun T => Spec.q1 T (y 3)) (tok_eq m c t ⟨(y 0).val * 256 + (y 2).val, by omega⟩)).trans ?_
  dsimp only
  refine congrArg₂ (fun T k => Spec.q1 (tokM m c T) k) (Fin.ext ?_) (Fin.ext ?_)
  · dsimp only [flat]
    blk_simp [idx8 t]
    omega
  · blk_simp [idx8 t]

theorem idx9 : ∀ t : Fin cfg0.N, win0_9.index t = ![0, t.val, 0, 0] := (by decide +kernel : ∀ t : Fin grid0.N, _)
set_option maxHeartbeats 2000000 in
/-- Result 3. -/
theorem final9 (c : Dev nD) : (dats m 0 c).arrAt 9 (cfgs 0).N
    = fun i : S2x64x256x44.Idx => Spec.sc1 (tokM m c (flat (i 0) (i 1) (i 2))) (i 3) := by
  refine (dats m 0 c).arrAt_eq_of_covers 9 _ (by decide +kernel) fun t _ y => ?_
  blk_simp
  rw [after0_9]
  have h0 : (y 0).val < 2 := (y 0).isLt
  have h1 : (y 1).val < 1 := (y 1).isLt
  have h2 : (y 2).val < 256 := (y 2).isLt
  have h3 : (y 3).val < 44 := (y 3).isLt
  have hN := N_64 t
  refine (congrArg (fun T => Spec.sc1 T (y 3)) (tok_eq m c t ⟨(y 0).val * 256 + (y 2).val, by omega⟩)).trans ?_
  dsimp only
  refine congrArg₂ (fun T k => Spec.sc1 (tokM m c T) k) (Fin.ext ?_) (Fin.ext ?_)
  · dsimp only [flat]
    blk_simp [idx9 t]
    omega
  · blk_simp [idx9 t]

theorem idx10 : ∀ t : Fin cfg0.N, win0_10.index t = ![0, t.val, 0, 0] := (by decide +kernel : ∀ t : Fin grid0.N, _)
set_option maxHeartbeats 2000000 in
/-- Result 4. -/
theorem final10 (c : Dev nD) : (dats m 0 c).arrAt 10 (cfgs 0).N
    = fun i : S2x64x256x5632.Idx => Spec.q2 (tokM m c (flat (i 0) (i 1) (i 2))) (i 3) := by
  refine (dats m 0 c).arrAt_eq_of_covers 10 _ (by decide +kernel) fun t _ y => ?_
  blk_simp
  rw [after0_10]
  have h0 : (y 0).val < 2 := (y 0).isLt
  have h1 : (y 1).val < 1 := (y 1).isLt
  have h2 : (y 2).val < 256 := (y 2).isLt
  have h3 : (y 3).val < 5632 := (y 3).isLt
  have hN := N_64 t
  refine (congrArg (fun T => Spec.q2 T (y 3)) (tok_eq m c t ⟨(y 0).val * 256 + (y 2).val, by omega⟩)).trans ?_
  dsimp only
  refine congrArg₂ (fun T k => Spec.q2 (tokM m c T) k) (Fin.ext ?_) (Fin.ext ?_)
  · dsimp only [flat]
    blk_simp [idx10 t]
    omega
  · blk_simp [idx10 t]

theorem idx11 : ∀ t : Fin cfg0.N, win0_11.index t = ![0, t.val, 0, 0] := (by decide +kernel : ∀ t : Fin grid0.N, _)
set_option maxHeartbeats 2000000 in
/-- Result 5. -/
theorem final11 (c : Dev nD) : (dats m 0 c).arrAt 11 (cfgs 0).N
    = fun i : S2x64x256x176.Idx => Spec.sc2 (tokM m c (flat (i 0) (i 1) (i 2))) (i 3) := by
  refine (dats m 0 c).arrAt_eq_of_covers 11 _ (by decide +kernel) fun t _ y => ?_
  blk_simp
  rw [after0_11]
  have h0 : (y 0).val < 2 := (y 0).isLt
  have h1 : (y 1).val < 1 := (y 1).isLt
  have h2 : (y 2).val < 256 := (y 2).isLt
  have h3 : (y 3).val < 176 := (y 3).isLt
  have hN := N_64 t
  refine (congrArg (fun T => Spec.sc2 T (y 3)) (tok_eq m c t ⟨(y 0).val * 256 + (y 2).val, by omega⟩)).trans ?_
  dsimp only
  refine congrArg₂ (fun T k => Spec.sc2 (tokM m c T) k) (Fin.ext ?_) (Fin.ext ?_)
  · dsimp only [flat]
    blk_simp [idx11 t]
    omega
  · blk_simp [idx11 t]

end Cert.KernelIdeal.V
-- ==== Proof.RVal.lean ====
/-
  THE REFERENCE'S VALUES: every stage of its body, element by element, as the one token's mathematics.
-/
module
public import proofs.«01_k».proof.Proof.KFinal
public import proofs.«01_k».proof.Proof.Gen.ReferenceIdeal.Frame

@[expose] public section

set_option maxRecDepth 16384
noncomputable section
open Idealize.ShloMosaic Idealize.ShloMosaic.TcCoe Idealize.SL.Sem
namespace Cert.ReferenceIdeal.V
open Cert.ReferenceIdeal Cert.ReferenceIdeal.Gen

/-- What token `T` reads of the twelve input windows. -/
def tokR (x0 : Vec Ideal S32768x1408 .f32) (x1 : Vec Ideal S32768x1408 .bf16) (x2 x3 x4 : Vec Ideal S1x1408 .f32)
    (x5 : Vec Ideal S1408x5632 .fp8e4m3) (x6 x7 : Vec Ideal S1x5632 .f32) (x8 : Vec Ideal S5632x1408 .fp8e4m3)
    (x9 x10 x11 : Vec Ideal S1x1408 .f32) (T : Fin 32768) : Spec.Tok where
  y c := x0 (ix2 T c)
  dwb c := x2 (ix2 0 c)
  g c := x3 (ix2 0 c)
  b c := x4 (ix2 0 c)
  w1 c f := x5 (ix2 c f)
  s1 f := x6 (ix2 0 f)
  b1 f := x7 (ix2 0 f)
  w2 f c := x8 (ix2 f c)
  s2 c := x9 (ix2 0 c)
  b2 c := x10 (ix2 0 c)
  ls c := x11 (ix2 0 c)
  x c := x1 (ix2 T c)

theorem lt44 (b : Fin 44) (k : Fin 32) : b.val * 32 + k.val < 44 * 32 := by omega
theorem lt176 (b : Fin 176) (k : Fin 32) : b.val * 32 + k.val < 176 * 32 := by omega

set_option maxHeartbeats 2000000 in
/-- The normed value. -/
theorem pay1_at (v0 : Vec Ideal S32768x1408 .f32) (v2 v22 v26 : Vec Ideal S1x1408 .f32) (t : Spec.Tok) (T : Fin 32768)
    (hy : ∀ c, v0 (ix2 T c) = t.y c) (hd : ∀ c, v2 (ix2 0 c) = t.dwb c) (hg : ∀ c, v22 (ix2 0 c) = t.g c)
    (hb : ∀ c, v26 (ix2 0 c) = t.b c) (b : Fin 44) (k : Fin 32) :
    k0_pay1 v0 v2 v22 v26 (ix3 T b k) = Spec.z t ⟨b.val * 32 + k.val, lt44 b k⟩ := by
  pointwise [k0_pay1, Spec.z, Spec.rs, Spec.var, Spec.dev, Spec.mu, Spec.yb, hy, hd, hg, hb]

/-- A block's scaled amplitude, as an array. -/
def amp44 (v : FVec Ideal S32768x44x32 .f32) : FVec Ideal S32768x44x1 .f32 :=
  mulf (shapeCast S32768x44x1 (multiReduction .maximumf [2] S32768x44 (absf v) 0xFF800000#32 reduces_S32768x44x32_S32768x44 (.inl rfl) rfl)
    shapeCasts_S32768x44_S32768x44x1) (broadcast S32768x44x1 (Scalar.ofBits .f32 0x3B124925#32))
/-- The powers of two, as an array. -/
def pow44 : FVec Ideal S32768x44x252 .f32 :=
  exp2 (sitofp .f32 (subi (iota .tc S32768x44x252 32 [2] iota_S32768x44x252_d2_w32) (broadcast S32768x44x252 126#32)))
/-- The comparison, as an array. -/
def cmp44 (p : FVec Ideal S32768x44x252 .f32) (a : FVec Ideal S32768x44x1 .f32) : IVec S32768x44x252 32 :=
  extui 32 (cmpf .ole p (broadcastTo S32768x44x252 a broadcasts_S32768x44x1_S32768x44x252)) natLt_1_32

theorem red44_at (v : FVec Ideal S32768x44x32 .f32) (T : Fin 32768) (b : Fin 44) :
    multiReduction .maximumf [2] S32768x44 v 0xFF800000#32 reduces_S32768x44x32_S32768x44 (.inl rfl) rfl (ix2 T b)
      = Finset.univ.fold max (Ideal.ofBits .f32 0xFF800000#32) (fun k : Fin 32 => (v (ix3 T b k) : EReal)) := by
  pointwise []
theorem mul44_at (w : FVec Ideal S32768x44 .f32) (T : Fin 32768) (b : Fin 44) :
    mulf (shapeCast S32768x44x1 w shapeCasts_S32768x44_S32768x44x1) (broadcast S32768x44x1 (Scalar.ofBits .f32 0x3B124925#32)) (ix3 T b 0)
      = w (ix2 T b) * Ideal.ofBits .f32 0x3B124925#32 := by
  pointwise []
theorem bc44_at (a : FVec Ideal S32768x44x1 .f32) (T : Fin 32768) (b : Fin 44) (k : Fin 252) :
    broadcastTo S32768x44x252 a broadcasts_S32768x44x1_S32768x44x252 (ix3 T b k) = a (ix3 T b 0) := by
  pointwise []
theorem cmp44_at (p : FVec Ideal S32768x44x252 .f32) (a : FVec Ideal S32768x44x1 .f32) (T : Fin 32768) (b : Fin 44) (k : Fin 252) :
    cmp44 p a (ix3 T b k) = (Ideal.cmp .ole (p (ix3 T b k)) (a (ix3 T b 0))).setWidth 32 := by
  rw [← bc44_at a T b k]; rfl

theorem pow44_at (T : Fin 32768) (b : Fin 44) (k : Fin 252) : pow44 (ix3 T b k) = Quant.rPow k.val := by
  pointwise [pow44, Quant.rPow]
  rfl

/-- A block's amplitude. -/
theorem amp44_at (v : FVec Ideal S32768x44x32 .f32) (z : Fin (44 * 32) → EReal) (T : Fin 32768) (b : Fin 44)
    (hz : ∀ k, v (ix3 T b k) = z ⟨b.val * 32 + k.val, lt44 b k⟩) :
    amp44 v (ix3 T b 0) = Spec.amp 44 z b := by
  refine (mul44_at _ T b).trans ?_
  rw [red44_at]
  have h : (fun k : Fin 32 => (absf v (ix3 T b k) : EReal))
      = fun k => FloatOps.absf (F := Ideal) (φ := .f32) (z ⟨b.val * 32 + k.val, lt44 b k⟩) := by
    funext k
    exact congrArg (FloatOps.absf (F := Ideal) (φ := .f32)) (hz k)
  rw [h]
  rfl

/-- The comparison's arrays, as one. -/
theorem pay2_eq (v0 : Vec Ideal S32768x1408 .f32) (v2 v22 v26 : Vec Ideal S1x1408 .f32) :
    k0_pay2 v0 v2 v22 v26 = cmp44 pow44 (amp44 (k0_pay1 v0 v2 v22 v26)) := by
  rfl

/-- The comparison with every power of two. -/
theorem pay2_at (v0 : Vec Ideal S32768x1408 .f32) (v2 v22 v26 : Vec Ideal S1x1408 .f32) (z : Fin (44 * 32) → EReal) (T : Fin 32768)
    (b : Fin 44) (hz : ∀ k, k0_pay1 v0 v2 v22 v26 (ix3 T b k) = z ⟨b.val * 32 + k.val, lt44 b k⟩) (k : Fin 252) :
    k0_pay2 v0 v2 v22 v26 (ix3 T b k) = (Ideal.cmp .ole (Quant.rPow k.val) (Spec.amp 44 z b)).setWidth 32 := by
  rw [pay2_eq, cmp44_at, pow44_at, amp44_at _ z T b hz]
set_option maxHeartbeats 2000000 in
/-- The exponent counted. -/
theorem pay3_at (v43 : IVec S32768x44x252 32) (x : EReal) (T : Fin 32768) (b : Fin 44)
    (hx : ∀ k, v43 (ix3 T b k) = (Ideal.cmp .ole (Quant.rPow k.val) x).setWidth 32) :
    k0_pay3 (F := Ideal) v43 (ix3 T b 0) = Quant.rE x := by
  pointwise [k0_pay3, Quant.rE, Quant.cnt, Quant.rInd, hx]

/-- The scale … -/
theorem pay4_raw (v43 : IVec S32768x44x252 32) (T : Fin 32768) (b : Fin 44) :
    k0_pay4 (F := Ideal) v43 (ix3 T b 0) = Ideal.exp2 (k0_pay3 (F := Ideal) v43 (ix3 T b 0)) := by
  pointwise [k0_pay4]
  try rfl
theorem pay4_at (v43 : IVec S32768x44x252 32) (x : EReal) (T : Fin 32768) (b : Fin 44)
    (he : k0_pay3 (F := Ideal) v43 (ix3 T b 0) = Quant.rE x) : k0_pay4 (F := Ideal) v43 (ix3 T b 0) = Quant.sc x := by
  rw [pay4_raw, he, ← Quant.rScale_eq]
  unfold Quant.rScale
  rfl
/-- … and the code. -/
theorem pay5_raw (v30 : FVec Ideal S32768x44x32 .f32) (v43 : IVec S32768x44x252 32) (T : Fin 32768) (b : Fin 44) (k : Fin 32) :
    k0_pay5 v30 v43 (ix3 T b k) = min (Ideal.ofBits .f32 0x43E00000#32) (max (Ideal.ofBits .f32 0xC3E00000#32)
      (v30 (ix3 T b k) * Ideal.exp2 (Ideal.ofBits .f32 0x00000000#32 - k0_pay3 (F := Ideal) v43 (ix3 T b 0)))) := by
  pointwise [k0_pay5]
  try rfl
theorem blk44 (b : Fin 44) (k : Fin 32) : Spec.blk 44 ⟨b.val * 32 + k.val, lt44 b k⟩ = b := by
  apply Fin.ext; change (b.val * 32 + k.val) / 32 = b.val; omega
theorem pay5_at (v30 : FVec Ideal S32768x44x32 .f32) (v43 : IVec S32768x44x252 32) (z : Fin (44 * 32) → EReal) (T : Fin 32768) (b : Fin 44)
    (hz : ∀ k, v30 (ix3 T b k) = z ⟨b.val * 32 + k.val, lt44 b k⟩)
    (he : k0_pay3 (F := Ideal) v43 (ix3 T b 0) = Quant.rE (Spec.amp 44 z b)) (k : Fin 32) :
    k0_pay5 v30 v43 (ix3 T b k) = Spec.code 44 z ⟨b.val * 32 + k.val, lt44 b k⟩ := by
  rw [pay5_raw, hz, he]
  unfold Spec.code
  rw [blk44, ← Quant.rInv_eq]
  rfl

theorem eta44 (c : Fin 1408) : (⟨(Spec.blk 44 c).val * 32 + c.val % 32, lt44 (Spec.blk 44 c) ⟨c.val % 32, Nat.mod_lt _ (by omega)⟩⟩ : Fin (44 * 32)) = c := by
  apply Fin.ext; change c.val / 32 * 32 + c.val % 32 = c.val; omega
theorem pay5_c (v30 : FVec Ideal S32768x44x32 .f32) (v43 : IVec S32768x44x252 32) (z : Fin (44 * 32) → EReal) (T : Fin 32768)
    (hz : ∀ b k, v30 (ix3 T b k) = z ⟨b.val * 32 + k.val, lt44 b k⟩)
    (he : ∀ b, k0_pay3 (F := Ideal) v43 (ix3 T b 0) = Quant.rE (Spec.amp 44 z b)) (c : Fin 1408) :
    k0_pay5 v30 v43 (ix3 T (Spec.blk 44 c) ⟨c.val % 32, Nat.mod_lt _ (by omega)⟩) = Spec.code 44 z c := by
  rw [pay5_at v30 v43 z T _ (hz _) (he _)]
  exact congrArg (Spec.code 44 z) (eta44 c)
/-- The codes as the result is laid out … -/
theorem pay6_raw (v30 : FVec Ideal S32768x44x32 .f32) (v43 : IVec S32768x44x252 32) (T : Fin 32768) (c : Fin 1408) :
    k0_pay6 v30 v43 (ix2 T c) = k0_pay5 v30 v43 (ix3 T (Spec.blk 44 c) ⟨c.val % 32, Nat.mod_lt _ (by omega)⟩) := by
  pointwise [k0_pay6]
  try rfl
/-- … and the scales. -/
theorem pay7_raw (v43 : IVec S32768x44x252 32) (T : Fin 32768) (b : Fin 44) :
    k0_pay7 (F := Ideal) v43 (ix2 T b) = k0_pay4 (F := Ideal) v43 (ix3 T b 0) := by
  pointwise [k0_pay7]
/-- The first product. -/
theorem pay8_raw (v30 : FVec Ideal S32768x44x32 .f32) (v43 : IVec S32768x44x252 32) (v71 : Vec Ideal S1408x5632 .fp8e4m3)
    (v74 v78 : Vec Ideal S1x5632 .f32) (T : Fin 32768) (f : Fin 5632) :
    k0_pay8 v30 v43 v71 v74 v78 (ix2 T f)
      = (∑ c : Fin 1408, (k0_pay5 v30 v43 (ix3 T (Spec.blk 44 c) ⟨c.val % 32, Nat.mod_lt _ (by omega)⟩)
          * k0_pay4 (F := Ideal) v43 (ix3 T (Spec.blk 44 c) 0)) * (v71 (ix2 c f) : EReal)) * v74 (ix2 0 f) + v78 (ix2 0 f) := by
  pointwise [k0_pay8]
  try rfl
theorem pay8_at (v30 : FVec Ideal S32768x44x32 .f32) (v43 : IVec S32768x44x252 32) (v71 : Vec Ideal S1408x5632 .fp8e4m3)
    (v74 v78 : Vec Ideal S1x5632 .f32) (t : Spec.Tok) (T : Fin 32768)
    (hz : ∀ b k, v30 (ix3 T b k) = Spec.z t ⟨b.val * 32 + k.val, lt44 b k⟩)
    (he : ∀ b, k0_pay3 (F := Ideal) v43 (ix3 T b 0) = Quant.rE (Spec.amp 44 (Spec.z t) b))
    (hw : ∀ c f, v71 (ix2 c f) = t.w1 c f) (hs : ∀ f, v74 (ix2 0 f) = t.s1 f) (hb : ∀ f, v78 (ix2 0 f) = t.b1 f) (f : Fin 5632) :
    k0_pay8 v30 v43 v71 v74 v78 (ix2 T f) = Spec.u t f := by
  rw [pay8_raw, hs, hb]
  unfold Spec.u
  refine congrArg (fun s : EReal => s * t.s1 f + t.b1 f) (Finset.sum_congr rfl fun c _ => ?_)
  rw [pay5_c v30 v43 (Spec.z t) T hz he c, pay4_at v43 _ T _ (he _), hw]
  rfl
/-- The gelu's two factors … -/
theorem pay9_raw (v30 : FVec Ideal S32768x44x32 .f32) (v43 : IVec S32768x44x252 32) (v71 : Vec Ideal S1408x5632 .fp8e4m3)
    (v74 v78 : Vec Ideal S1x5632 .f32) (T : Fin 32768) (f : Fin 5632) :
    k0_pay9 v30 v43 v71 v74 v78 (ix2 T f) = Ideal.ofBits .f32 0x3F000000#32 * k0_pay8 v30 v43 v71 v74 v78 (ix2 T f) := by
  pointwise [k0_pay9]
theorem pay10_raw (v30 : FVec Ideal S32768x44x32 .f32) (v43 : IVec S32768x44x252 32) (v71 : Vec Ideal S1408x5632 .fp8e4m3)
    (v74 v78 : Vec Ideal S1x5632 .f32) (T : Fin 32768) (f : Fin 5632) :
    k0_pay10 v30 v43 v71 v74 v78 (ix2 T f) = Ideal.erf (k0_pay8 v30 v43 v71 v74 v78 (ix2 T f) * Ideal.ofBits .f32 0x3F3504F3#32) := by
  pointwise [k0_pay10]
  try rfl
theorem one_bits : Ideal.ofBits .f32 0x3F800000#32 = 1 := by
  simp [Ideal.ofBits, Ideal.ieee, -EReal.coe_mul]
  norm_num
/-- … and the gelu. -/
theorem pay11_raw (v83 v86 : FVec Ideal S32768x5632 .f32) (e : EReal) (T : Fin 32768) (b : Fin 176) (k : Fin 32) :
    k0_pay11 (F := Ideal) v83 v86 e (ix3 T b k)
      = v83 (ix2 T ⟨b.val * 32 + k.val, lt176 b k⟩) * (e + v86 (ix2 T ⟨b.val * 32 + k.val, lt176 b k⟩)) := by
  pointwise [k0_pay11]
theorem pay11_at (v83 v86 : FVec Ideal S32768x5632 .f32) (t : Spec.Tok) (T : Fin 32768)
    (h1 : ∀ f, v83 (ix2 T f) = Ideal.ofBits .f32 0x3F000000#32 * Spec.u t f)
    (h2 : ∀ f, v86 (ix2 T f) = Ideal.erf (Spec.u t f * Ideal.ofBits .f32 0x3F3504F3#32)) (b : Fin 176) (k : Fin 32) :
    k0_pay11 (F := Ideal) v83 v86 (Ideal.ofBits .f32 0x3F800000#32) (ix3 T b k) = Spec.h t ⟨b.val * 32 + k.val, lt176 b k⟩ := by
  rw [pay11_raw, h1, h2, one_bits]
  rfl
/-- A block's scaled amplitude, as an array. -/
def amp176 (v : FVec Ideal S32768x176x32 .f32) : FVec Ideal S32768x176x1 .f32 :=
  mulf (shapeCast S32768x176x1 (multiReduction .maximumf [2] S32768x176 (absf v) 0xFF800000#32 reduces_S32768x176x32_S32768x176 (.inl rfl) rfl)
    shapeCasts_S32768x176_S32768x176x1) (broadcast S32768x176x1 (Scalar.ofBits .f32 0x3B124925#32))
/-- The powers of two, as an array. -/
def pow176 : FVec Ideal S32768x176x252 .f32 :=
  exp2 (sitofp .f32 (subi (iota .tc S32768x176x252 32 [2] iota_S32768x176x252_d2_w32) (broadcast S32768x176x252 126#32)))
/-- The comparison, as an array. -/
def cmp176 (p : FVec Ideal S32768x176x252 .f32) (a : FVec Ideal S32768x176x1 .f32) : IVec S32768x176x252 32 :=
  extui 32 (cmpf .ole p (broadcastTo S32768x176x252 a broadcasts_S32768x176x1_S32768x176x252)) natLt_1_32

theorem red176_at (v : FVec Ideal S32768x176x32 .f32) (T : Fin 32768) (b : Fin 176) :
    multiReduction .maximumf [2] S32768x176 v 0xFF800000#32 reduces_S32768x176x32_S32768x176 (.inl rfl) rfl (ix2 T b)
      = Finset.univ.fold max (Ideal.ofBits .f32 0xFF800000#32) (fun k : Fin 32 => (v (ix3 T b k) : EReal)) := by
  pointwise []
theorem mul176_at (w : FVec Ideal S32768x176 .f32) (T : Fin 32768) (b : Fin 176) :
    mulf (shapeCast S32768x176x1 w shapeCasts_S32768x176_S32768x176x1) (broadcast S32768x176x1 (Scalar.ofBits .f32 0x3B124925#32)) (ix3 T b 0)
      = w (ix2 T b) * Ideal.ofBits .f32 0x3B124925#32 := by
  pointwise []
theorem bc176_at (a : FVec Ideal S32768x176x1 .f32) (T : Fin 32768) (b : Fin 176) (k : Fin 252) :
    broadcastTo S32768x176x252 a broadcasts_S32768x176x1_S32768x176x252 (ix3 T b k) = a (ix3 T b 0) := by
  pointwise []
theorem cmp176_at (p : FVec Ideal S32768x176x252 .f32) (a : FVec Ideal S32768x176x1 .f32) (T : Fin 32768) (b : Fin 176) (k : Fin 252) :
    cmp176 p a (ix3 T b k) = (Ideal.cmp .ole (p (ix3 T b k)) (a (ix3 T b 0))).setWidth 32 := by
  rw [← bc176_at a T b k]; rfl

theorem pow176_at (T : Fin 32768) (b : Fin 176) (k : Fin 252) : pow176 (ix3 T b k) = Quant.rPow k.val := by
  pointwise [pow176, Quant.rPow]
  rfl

/-- A block's amplitude. -/
theorem amp176_at (v : FVec Ideal S32768x176x32 .f32) (z : Fin (176 * 32) → EReal) (T : Fin 32768) (b : Fin 176)
    (hz : ∀ k, v (ix3 T b k) = z ⟨b.val * 32 + k.val, lt176 b k⟩) :
    amp176 v (ix3 T b 0) = Spec.amp 176 z b := by
  refine (mul176_at _ T b).trans ?_
  rw [red176_at]
  have h : (fun k : Fin 32 => (absf v (ix3 T b k) : EReal))
      = fun k => FloatOps.absf (F := Ideal) (φ := .f32) (z ⟨b.val * 32 + k.val, lt176 b k⟩) := by
    funext k
    exact congrArg (FloatOps.absf (F := Ideal) (φ := .f32)) (hz k)
  rw [h]
  rfl

/-- The exponent counted, as an array. -/
def exp176 (v43 : IVec S32768x176x252 32) : FVec Ideal S32768x176x1 .f32 :=
  have v46 : FVec Ideal S32768x176x1 .f32 := shapeCast S32768x176x1 (multiReduction .add [2] S32768x176 (sitofp .f32 v43) 0x00000000#32
    reduces_S32768x176x252_S32768x176 (.inl rfl) rfl) shapeCasts_S32768x176_S32768x176x1
  select (cmpf .oeq v46 (broadcast S32768x176x1 (Scalar.ofBits .f32 0x00000000#32)))
    (broadcast S32768x176x1 (Scalar.ofBits .f32 0x00000000#32)) (subf v46 (broadcast S32768x176x1 (Scalar.ofBits .f32 0x42FC0000#32)))
set_option maxHeartbeats 2000000 in
theorem exp176_at (v43 : IVec S32768x176x252 32) (x : EReal) (T : Fin 32768) (b : Fin 176)
    (hx : ∀ k, v43 (ix3 T b k) = (Ideal.cmp .ole (Quant.rPow k.val) x).setWidth 32) :
    exp176 v43 (ix3 T b 0) = Quant.rE x := by
  pointwise [exp176, Quant.rE, Quant.cnt, Quant.rInd, hx]
theorem pay12_eq (v83 v86 : FVec Ideal S32768x5632 .f32) (e : EReal) :
    k0_pay12 (F := Ideal) v83 v86 e = exp176 (cmp176 pow176 (amp176 (k0_pay11 (F := Ideal) v83 v86 e))) := by
  rfl
theorem pay12_at (v83 v86 : FVec Ideal S32768x5632 .f32) (e : EReal) (z : Fin (176 * 32) → EReal) (T : Fin 32768) (b : Fin 176)
    (hz : ∀ k, k0_pay11 (F := Ideal) v83 v86 e (ix3 T b k) = z ⟨b.val * 32 + k.val, lt176 b k⟩) :
    k0_pay12 (F := Ideal) v83 v86 e (ix3 T b 0) = Quant.rE (Spec.amp 176 z b) := by
  rw [pay12_eq]
  refine exp176_at _ _ T b fun k => ?_
  rw [cmp176_at, pow176_at, amp176_at _ z T b hz]
theorem pay13_raw (v83 v86 : FVec Ideal S32768x5632 .f32) (e : EReal) (T : Fin 32768) (b : Fin 176) :
    k0_pay13 (F := Ideal) v83 v86 e (ix3 T b 0) = Ideal.exp2 (k0_pay12 (F := Ideal) v83 v86 e (ix3 T b 0)) := by
  pointwise [k0_pay13]
  try rfl
theorem pay13_at (v83 v86 : FVec Ideal S32768x5632 .f32) (e x : EReal) (T : Fin 32768) (b : Fin 176)
    (he : k0_pay12 (F := Ideal) v83 v86 e (ix3 T b 0) = Quant.rE x) : k0_pay13 (F := Ideal) v83 v86 e (ix3 T b 0) = Quant.sc x := by
  rw [pay13_raw, he, ← Quant.rScale_eq]
  unfold Quant.rScale
  rfl
theorem pay14_raw (v83 v86 : FVec Ideal S32768x5632 .f32) (e : EReal) (T : Fin 32768) (b : Fin 176) (k : Fin 32) :
    k0_pay14 (F := Ideal) v83 v86 e (ix3 T b k) = min (Ideal.ofBits .f32 0x43E00000#32) (max (Ideal.ofBits .f32 0xC3E00000#32)
      (k0_pay11 (F := Ideal) v83 v86 e (ix3 T b k) * Ideal.exp2 (Ideal.ofBits .f32 0x00000000#32 - k0_pay12 (F := Ideal) v83 v86 e (ix3 T b 0)))) := by
  pointwise [k0_pay14]
  try rfl
theorem blk176 (b : Fin 176) (k : Fin 32) : Spec.blk 176 ⟨b.val * 32 + k.val, lt176 b k⟩ = b := by
  apply Fin.ext; change (b.val * 32 + k.val) / 32 = b.val; omega
theorem eta176 (c : Fin 5632) : (⟨(Spec.blk 176 c).val * 32 + c.val % 32, lt176 (Spec.blk 176 c) ⟨c.val % 32, Nat.mod_lt _ (by omega)⟩⟩ : Fin (176 * 32)) = c := by
  apply Fin.ext; change c.val / 32 * 32 + c.val % 32 = c.val; omega
theorem pay14_c (v83 v86 : FVec Ideal S32768x5632 .f32) (e : EReal) (z : Fin (176 * 32) → EReal) (T : Fin 32768)
    (hz : ∀ b k, k0_pay11 (F := Ideal) v83 v86 e (ix3 T b k) = z ⟨b.val * 32 + k.val, lt176 b k⟩) (c : Fin 5632) :
    k0_pay14 (F := Ideal) v83 v86 e (ix3 T (Spec.blk 176 c) ⟨c.val % 32, Nat.mod_lt _ (by omega)⟩) = Spec.code 176 z c := by
  rw [pay14_raw, hz, pay12_at v83 v86 e z T _ (hz _)]
  refine Eq.trans ?_ (congrArg (Spec.code 176 z) (eta176 c))
  unfold Spec.code
  rw [eta176, ← Quant.rInv_eq]
  rfl
theorem pay15_raw (v83 v86 : FVec Ideal S32768x5632 .f32) (e : EReal) (T : Fin 32768) (c : Fin 5632) :
    k0_pay15 (F := Ideal) v83 v86 e (ix2 T c) = k0_pay14 (F := Ideal) v83 v86 e (ix3 T (Spec.blk 176 c) ⟨c.val % 32, Nat.mod_lt _ (by omega)⟩) := by
  pointwise [k0_pay15]
  try rfl
theorem pay16_raw (v83 v86 : FVec Ideal S32768x5632 .f32) (e : EReal) (T : Fin 32768) (b : Fin 176) :
    k0_pay16 (F := Ideal) v83 v86 e (ix2 T b) = k0_pay13 (F := Ideal) v83 v86 e (ix3 T b 0) := by
  pointwise [k0_pay16]
/-- The second product. -/
theorem pay17_raw (v83 v86 : FVec Ideal S32768x5632 .f32) (e : EReal) (v131 : Vec Ideal S5632x1408 .fp8e4m3) (T : Fin 32768) (c : Fin 1408) :
    k0_pay17 (F := Ideal) v83 v86 e v131 (ix2 T c)
      = ∑ f : Fin 5632, (k0_pay14 (F := Ideal) v83 v86 e (ix3 T (Spec.blk 176 f) ⟨f.val % 32, Nat.mod_lt _ (by omega)⟩)
          * k0_pay13 (F := Ideal) v83 v86 e (ix3 T (Spec.blk 176 f) 0)) * (v131 (ix2 f c) : EReal) := by
  pointwise [k0_pay17]
  try rfl
theorem pay17_at (v83 v86 : FVec Ideal S32768x5632 .f32) (e : EReal) (v131 : Vec Ideal S5632x1408 .fp8e4m3) (t : Spec.Tok) (T : Fin 32768)
    (hz : ∀ b k, k0_pay11 (F := Ideal) v83 v86 e (ix3 T b k) = Spec.h t ⟨b.val * 32 + k.val, lt176 b k⟩)
    (hw : ∀ f c, v131 (ix2 f c) = t.w2 f c) (c : Fin 1408) :
    k0_pay17 (F := Ideal) v83 v86 e v131 (ix2 T c) = ∑ f : Fin 5632, Spec.deq 176 (Spec.h t) f * t.w2 f c := by
  rw [pay17_raw]
  refine Finset.sum_congr rfl fun f _ => ?_
  rw [pay14_c v83 v86 e (Spec.h t) T hz f, pay13_at v83 v86 e _ T _ (pay12_at v83 v86 e (Spec.h t) T _ (hz _)), hw]
  rfl

open Cert.KernelIdeal.V (flat)
/-- The results as they are laid out. -/
theorem pay18_raw (v133 : FVec Ideal S32768x1408 .f32) (v134 v138 : Vec Ideal S1x1408 .f32) (v142 : Vec Ideal S32768x1408 .bf16)
    (v145 : Vec Ideal S1x1408 .f32) (q : Fin 2) (n : Fin 64) (r : Fin 256) (c : Fin 1408) :
    k0_pay18 v133 v134 v138 v142 v145 (ix4 q n r c)
      = v142 (ix2 (flat q n r) c) + v145 (ix2 0 c) * (v133 (ix2 (flat q n r) c) * v134 (ix2 0 c) + v138 (ix2 0 c)) := by
  pointwise [k0_pay18]
theorem pay19_raw (v : FVec Ideal S32768x1408 .fp8e4m3) (q : Fin 2) (n : Fin 64) (r : Fin 256) (c : Fin 1408) :
    k0_pay19 v (ix4 q n r c) = v (ix2 (flat q n r) c) := by
  pointwise [k0_pay19]
theorem pay20_raw (v : FVec Ideal S32768x44 .f32) (q : Fin 2) (n : Fin 64) (r : Fin 256) (c : Fin 44) :
    k0_pay20 v (ix4 q n r c) = v (ix2 (flat q n r) c) := by
  pointwise [k0_pay20]
theorem pay21_raw (v : FVec Ideal S32768x5632 .fp8e4m3) (q : Fin 2) (n : Fin 64) (r : Fin 256) (c : Fin 5632) :
    k0_pay21 v (ix4 q n r c) = v (ix2 (flat q n r) c) := by
  pointwise [k0_pay21]
theorem pay22_raw (v : FVec Ideal S32768x176 .f32) (q : Fin 2) (n : Fin 64) (r : Fin 256) (c : Fin 176) :
    k0_pay22 v (ix4 q n r c) = v (ix2 (flat q n r) c) := by
  pointwise [k0_pay22]

end Cert.ReferenceIdeal.V
-- ==== Proof.ROut.lean ====
/-
  THE REFERENCE'S RESULTS: what its body leaves in its five output windows, element by element.
-/
module
public import proofs.«01_k».proof.Proof.RVal

@[expose] public section

set_option maxRecDepth 16384
noncomputable section
open Idealize.ShloMosaic Idealize.ShloMosaic.TcCoe Idealize.ShloMosaic.Tactic Idealize.SL.Sem
namespace Cert.ReferenceIdeal.V
open Cert.ReferenceIdeal Cert.ReferenceIdeal.Gen
open Cert.KernelIdeal.V (flat)

section
variable (x0 : Vec Ideal S32768x1408 .f32) (x1 : Vec Ideal S32768x1408 .bf16) (x2 x3 x4 : Vec Ideal S1x1408 .f32)
    (x5 : Vec Ideal S1408x5632 .fp8e4m3) (x6 x7 : Vec Ideal S1x5632 .f32) (x8 : Vec Ideal S5632x1408 .fp8e4m3)
    (x9 x10 x11 : Vec Ideal S1x1408 .f32)

theorem p23 (T : Fin 32768) (b : Fin 44) (k : Fin 32) :
    k0_pay23 x0 x1 x2 x3 x4 x5 x6 x7 x8 x9 x10 x11 (ix3 T b k) = Spec.z (tokR x0 x1 x2 x3 x4 x5 x6 x7 x8 x9 x10 x11 T) ⟨b.val * 32 + k.val, lt44 b k⟩ := by
  unfold k0_pay23
  rw [View.ld_unit_zero (by decide) _ x0, View.ld_unit_zero (by decide) _ x2, View.ld_unit_zero (by decide) _ x3,
    View.ld_unit_zero (by decide) _ x4]
  exact pay1_at x0 x2 x3 x4 (tokR x0 x1 x2 x3 x4 x5 x6 x7 x8 x9 x10 x11 T) T (fun _ => rfl) (fun _ => rfl) (fun _ => rfl) (fun _ => rfl) b k
theorem p24 (T : Fin 32768) (b : Fin 44) :
    k0_pay3 (F := Ideal) (k0_pay24 x0 x1 x2 x3 x4 x5 x6 x7 x8 x9 x10 x11) (ix3 T b 0) = Quant.rE (Spec.amp 44 (Spec.z (tokR x0 x1 x2 x3 x4 x5 x6 x7 x8 x9 x10 x11 T)) b) := by
  refine pay3_at _ _ T b fun k => ?_
  unfold k0_pay24
  exact pay2_at _ _ _ _ (Spec.z (tokR x0 x1 x2 x3 x4 x5 x6 x7 x8 x9 x10 x11 T)) T b (p23 x0 x1 x2 x3 x4 x5 x6 x7 x8 x9 x10 x11 T b) k
theorem p8 (T : Fin 32768) (f : Fin 5632) :
    k0_pay8 (k0_pay23 x0 x1 x2 x3 x4 x5 x6 x7 x8 x9 x10 x11) (k0_pay24 x0 x1 x2 x3 x4 x5 x6 x7 x8 x9 x10 x11) x5 x6 x7 (ix2 T f) = Spec.u (tokR x0 x1 x2 x3 x4 x5 x6 x7 x8 x9 x10 x11 T) f :=
  pay8_at _ _ x5 x6 x7 (tokR x0 x1 x2 x3 x4 x5 x6 x7 x8 x9 x10 x11 T) T (p23 x0 x1 x2 x3 x4 x5 x6 x7 x8 x9 x10 x11 T) (p24 x0 x1 x2 x3 x4 x5 x6 x7 x8 x9 x10 x11 T) (fun _ _ => rfl) (fun _ => rfl) (fun _ => rfl) f
theorem p11 (T : Fin 32768) (b : Fin 176) (k : Fin 32) :
    k0_pay11 (F := Ideal) (k0_pay25 x0 x1 x2 x3 x4 x5 x6 x7 x8 x9 x10 x11) (k0_pay26 x0 x1 x2 x3 x4 x5 x6 x7 x8 x9 x10 x11) (Ideal.ofBits .f32 0x3F800000#32) (ix3 T b k)
      = Spec.h (tokR x0 x1 x2 x3 x4 x5 x6 x7 x8 x9 x10 x11 T) ⟨b.val * 32 + k.val, lt176 b k⟩ := by
  refine pay11_at _ _ (tokR x0 x1 x2 x3 x4 x5 x6 x7 x8 x9 x10 x11 T) T (fun f => ?_) (fun f => ?_) b k
  · unfold k0_pay25
    rw [View.ld_unit_zero (by decide) _ x5, View.ld_unit_zero (by decide) _ x6, View.ld_unit_zero (by decide) _ x7, pay9_raw, p8]
  · unfold k0_pay26
    rw [View.ld_unit_zero (by decide) _ x5, View.ld_unit_zero (by decide) _ x6, View.ld_unit_zero (by decide) _ x7, pay10_raw, p8]

/-- Result 1. -/
theorem o12 (q : Fin 2) (n : Fin 64) (r : Fin 256) (c : Fin 1408) :
    out0_12 x0 x1 x2 x3 x4 x5 x6 x7 x8 x9 x10 x11 (ix4 q n r c) = Spec.out (tokR x0 x1 x2 x3 x4 x5 x6 x7 x8 x9 x10 x11 (flat q n r)) c := by
  unfold out0_12
  rw [View.canon_unit_zero (by decide)]
  rw [View.ld_unit_zero (by decide) _ x8, View.ld_unit_zero (by decide) _ x9, View.ld_unit_zero (by decide) _ x10,
    View.ld_unit_zero (by decide) _ x1, View.ld_unit_zero (by decide) _ x11, pay18_raw]
  exact congrArg (fun s : EReal => (x1 (ix2 (flat q n r) c) : EReal) + x11 (ix2 0 c) * (s * x9 (ix2 0 c) + x10 (ix2 0 c)))
    (pay17_at _ _ _ x8 (tokR x0 x1 x2 x3 x4 x5 x6 x7 x8 x9 x10 x11 (flat q n r)) (flat q n r) (p11 x0 x1 x2 x3 x4 x5 x6 x7 x8 x9 x10 x11 (flat q n r)) (fun _ _ => rfl) c)
/-- Result 2. -/
theorem o13 (q : Fin 2) (n : Fin 64) (r : Fin 256) (c : Fin 1408) :
    out0_13 x0 x1 x2 x3 x4 x5 x6 x7 x8 x9 x10 x11 (ix4 q n r c) = Spec.q1 (tokR x0 x1 x2 x3 x4 x5 x6 x7 x8 x9 x10 x11 (flat q n r)) c := by
  unfold out0_13
  rw [View.canon_unit_zero (by decide)]
  rw [pay19_raw, pay6_raw]
  exact pay5_c _ _ (Spec.z (tokR x0 x1 x2 x3 x4 x5 x6 x7 x8 x9 x10 x11 (flat q n r))) _ (p23 x0 x1 x2 x3 x4 x5 x6 x7 x8 x9 x10 x11 (flat q n r)) (p24 x0 x1 x2 x3 x4 x5 x6 x7 x8 x9 x10 x11 (flat q n r)) c
/-- Result 3. -/
theorem o14 (q : Fin 2) (n : Fin 64) (r : Fin 256) (c : Fin 44) :
    out0_14 x0 x1 x2 x3 x4 x5 x6 x7 x8 x9 x10 x11 (ix4 q n r c) = Spec.sc1 (tokR x0 x1 x2 x3 x4 x5 x6 x7 x8 x9 x10 x11 (flat q n r)) c := by
  unfold out0_14
  rw [View.canon_unit_zero (by decide)]
  rw [pay20_raw, pay7_raw]
  exact pay4_at _ _ _ c (p24 x0 x1 x2 x3 x4 x5 x6 x7 x8 x9 x10 x11 (flat q n r) c)
/-- Result 4. -/
theorem o15 (q : Fin 2) (n : Fin 64) (r : Fin 256) (c : Fin 5632) :
    out0_15 x0 x1 x2 x3 x4 x5 x6 x7 x8 x9 x10 x11 (ix4 q n r c) = Spec.q2 (tokR x0 x1 x2 x3 x4 x5 x6 x7 x8 x9 x10 x11 (flat q n r)) c := by
  unfold out0_15
  rw [View.canon_unit_zero (by decide)]
  rw [pay21_raw, pay15_raw]
  exact pay14_c _ _ _ (Spec.h (tokR x0 x1 x2 x3 x4 x5 x6 x7 x8 x9 x10 x11 (flat q n r))) _ (p11 x0 x1 x2 x3 x4 x5 x6 x7 x8 x9 x10 x11 (flat q n r)) c
/-- Result 5. -/
theorem o16 (q : Fin 2) (n : Fin 64) (r : Fin 256) (c : Fin 176) :
    out0_16 x0 x1 x2 x3 x4 x5 x6 x7 x8 x9 x10 x11 (ix4 q n r c) = Spec.sc2 (tokR x0 x1 x2 x3 x4 x5 x6 x7 x8 x9 x10 x11 (flat q n r)) c := by
  unfold out0_16
  rw [View.canon_unit_zero (by decide)]
  rw [pay22_raw, pay16_raw]
  exact pay13_at _ _ _ _ _ c (pay12_at _ _ _ (Spec.h (tokR x0 x1 x2 x3 x4 x5 x6 x7 x8 x9 x10 x11 (flat q n r))) _ c (p11 x0 x1 x2 x3 x4 x5 x6 x7 x8 x9 x10 x11 (flat q n r) c))
end

end Cert.ReferenceIdeal.V
-- ==== Proof.RTok.lean ====
/-
  THE REFERENCE'S TOKENS: what the host's reshapes and transpose leave in the input windows is the arguments' tokens.
-/
module
public import proofs.«01_k».proof.Proof.ROut

@[expose] public section

set_option maxRecDepth 16384
noncomputable section
namespace Cert.ReferenceIdeal.V
open Cert.ReferenceIdeal Cert.ReferenceIdeal.Gen
open Idealize.ShloMosaic Idealize.ShloMosaic.TcCoe Idealize.ShloMosaic.Tactic Idealize.SL.Sem
open Idealize.ShloMosaic.Pipeline (Dat Cfg Window)
open Cert.KernelIdeal.V (flat)

variable (m : (ℓ : Loc nD τ sig) → Buf (Elt Ideal) ℓ)

/-- Token `T` of the twelve arguments. -/
def tokS (c : Dev nD) (T : Fin 32768) : Spec.Tok :=
  Spec.tokA (fun i j k => m (c.tc.loc main_arg0) (ix3 i j k)) (fun i j k => m (c.tc.loc main_arg1) (ix3 i j k))
    (fun i => m (c.tc.loc main_arg2) (ix1 i)) (fun i => m (c.tc.loc main_arg3) (ix1 i)) (fun i => m (c.tc.loc main_arg4) (ix1 i))
    (fun i j => m (c.tc.loc main_arg5) (ix2 i j)) (fun i => m (c.tc.loc main_arg6) (ix1 i)) (fun i => m (c.tc.loc main_arg7) (ix1 i))
    (fun i j => m (c.tc.loc main_arg8) (ix2 i j)) (fun i => m (c.tc.loc main_arg9) (ix1 i)) (fun i => m (c.tc.loc main_arg10) (ix1 i))
    (fun i => m (c.tc.loc main_arg11) (ix1 i)) T

theorem ridx0 : ∀ t : Fin cfg0.N, win0_0.index t = ![0, 0] := (by decide +kernel : ∀ t : Fin grid0.N, _)
theorem ridx1 : ∀ t : Fin cfg0.N, win0_1.index t = ![0, 0] := (by decide +kernel : ∀ t : Fin grid0.N, _)
theorem ridx2 : ∀ t : Fin cfg0.N, win0_2.index t = ![0, 0] := (by decide +kernel : ∀ t : Fin grid0.N, _)
theorem ridx3 : ∀ t : Fin cfg0.N, win0_3.index t = ![0, 0] := (by decide +kernel : ∀ t : Fin grid0.N, _)
theorem ridx4 : ∀ t : Fin cfg0.N, win0_4.index t = ![0, 0] := (by decide +kernel : ∀ t : Fin grid0.N, _)
theorem ridx5 : ∀ t : Fin cfg0.N, win0_5.index t = ![0, 0] := (by decide +kernel : ∀ t : Fin grid0.N, _)
theorem ridx6 : ∀ t : Fin cfg0.N, win0_6.index t = ![0, 0] := (by decide +kernel : ∀ t : Fin grid0.N, _)
theorem ridx7 : ∀ t : Fin cfg0.N, win0_7.index t = ![0, 0] := (by decide +kernel : ∀ t : Fin grid0.N, _)
theorem ridx8 : ∀ t : Fin cfg0.N, win0_8.index t = ![0, 0] := (by decide +kernel : ∀ t : Fin grid0.N, _)
theorem ridx9 : ∀ t : Fin cfg0.N, win0_9.index t = ![0, 0] := (by decide +kernel : ∀ t : Fin grid0.N, _)
theorem ridx10 : ∀ t : Fin cfg0.N, win0_10.index t = ![0, 0] := (by decide +kernel : ∀ t : Fin grid0.N, _)
theorem ridx11 : ∀ t : Fin cfg0.N, win0_11.index t = ![0, 0] := (by decide +kernel : ∀ t : Fin grid0.N, _)

set_option maxHeartbeats 2000000 in
theorem rb0 (c : Dev nD) (t : Fin cfg0.N) (T : Fin 32768) (k : Fin 1408) :
    iblk m c 0 t (ix2 T k) = m (c.tc.loc main_arg0)
      (ix3 ⟨k.val / 8, by omega⟩ ⟨T.val / 128 % 2 * 1024 + T.val / 256 % 64 * 16 + T.val / 16384 * 8 + k.val % 8, by omega⟩ ⟨T.val % 128, by omega⟩) := by
  blk_point [iblk, V, ridx0 t]
theorem rb1 (c : Dev nD) (t : Fin cfg0.N) (T : Fin 32768) (k : Fin 1408) :
    iblk m c 1 t (ix2 T k) = m (c.tc.loc main_arg1) (ix3 ⟨T.val / 4096, by omega⟩ ⟨T.val % 4096, by omega⟩ k) := by
  blk_point [iblk, V, ridx1 t]
theorem rb2 (c : Dev nD) (t : Fin cfg0.N) (a : Fin 1) (k : Fin 1408) :
    iblk m c 2 t (ix2 a k) = m (c.tc.loc main_arg2) (ix1 k) := by
  blk_point [iblk, V, ridx2 t]
theorem rb3 (c : Dev nD) (t : Fin cfg0.N) (a : Fin 1) (k : Fin 1408) :
    iblk m c 3 t (ix2 a k) = m (c.tc.loc main_arg3) (ix1 k) := by
  blk_point [iblk, V, ridx3 t]
theorem rb4 (c : Dev nD) (t : Fin cfg0.N) (a : Fin 1) (k : Fin 1408) :
    iblk m c 4 t (ix2 a k) = m (c.tc.loc main_arg4) (ix1 k) := by
  blk_point [iblk, V, ridx4 t]
theorem rb5 (c : Dev nD) (t : Fin cfg0.N) (i : Fin 1408) (k : Fin 5632) :
    iblk m c 5 t (ix2 i k) = m (c.tc.loc main_arg5) (ix2 i k) := by
  blk_point [iblk, V, ridx5 t]
theorem rb6 (c : Dev nD) (t : Fin cfg0.N) (a : Fin 1) (k : Fin 5632) :
    iblk m c 6 t (ix2 a k) = m (c.tc.loc main_arg6) (ix1 k) := by
  blk_point [iblk, V, ridx6 t]
theorem rb7 (c : Dev nD) (t : Fin cfg0.N) (a : Fin 1) (k : Fin 5632) :
    iblk m c 7 t (ix2 a k) = m (c.tc.loc main_arg7) (ix1 k) := by
  blk_point [iblk, V, ridx7 t]
theorem rb8 (c : Dev nD) (t : Fin cfg0.N) (i : Fin 5632) (k : Fin 1408) :
    iblk m c 8 t (ix2 i k) = m (c.tc.loc main_arg8) (ix2 i k) := by
  blk_point [iblk, V, ridx8 t]
theorem rb9 (c : Dev nD) (t : Fin cfg0.N) (a : Fin 1) (k : Fin 1408) :
    iblk m c 9 t (ix2 a k) = m (c.tc.loc main_arg9) (ix1 k) := by
  blk_point [iblk, V, ridx9 t]
theorem rb10 (c : Dev nD) (t : Fin cfg0.N) (a : Fin 1) (k : Fin 1408) :
    iblk m c 10 t (ix2 a k) = m (c.tc.loc main_arg10) (ix1 k) := by
  blk_point [iblk, V, ridx10 t]
theorem rb11 (c : Dev nD) (t : Fin cfg0.N) (a : Fin 1) (k : Fin 1408) :
    iblk m c 11 t (ix2 a k) = m (c.tc.loc main_arg11) (ix1 k) := by
  blk_point [iblk, V, ridx11 t]

/-- The token the windows hold. -/
theorem tokR_eq (c : Dev nD) (t : Fin cfg0.N) (T : Fin 32768) :
    tokR (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) T = tokS m c T := by
  refine Spec.Tok.ext ?_ ?_ ?_ ?_ ?_ ?_ ?_ ?_ ?_ ?_ ?_ ?_
  · funext k; exact rb0 m c t T k
  · funext k; exact rb2 m c t 0 k
  · funext k; exact rb3 m c t 0 k
  · funext k; exact rb4 m c t 0 k
  · funext k f; exact rb5 m c t k f
  · funext k; exact rb6 m c t 0 k
  · funext k; exact rb7 m c t 0 k
  · funext k f; exact rb8 m c t k f
  · funext k; exact rb9 m c t 0 k
  · funext k; exact rb10 m c t 0 k
  · funext k; exact rb11 m c t 0 k
  · funext k; exact rb1 m c t T k
theorem at4 {n0 n1 n2 n3 : ℕ} (P : (⟨4, ![n0, n1, n2, n3]⟩ : Shape).Idx → Prop) (h : ∀ a b c d, P (ix4 a b c d)) (j) : P j := by
  rw [eq_ix4 j]; exact h _ _ _ _

theorem ridx12 : ∀ t : Fin cfg0.N, win0_12.index t = ![0, 0, 0, 0] := (by decide +kernel : ∀ t : Fin grid0.N, _)
set_option maxHeartbeats 2000000 in
/-- Result 1. -/
theorem final12 (c : Dev nD) : (dats m 0 c).arrAt 12 (cfgs 0).N
    = fun i : S2x64x256x1408.Idx => Spec.out (tokS m c (flat (i 0) (i 1) (i 2))) (i 3) := by
  refine (dats m 0 c).arrAt_eq_of_after_last 12 t0_0 (by decide +kernel) _ fun j => ?_
  blk_simp
  rw [after0_12]
  refine at4 (fun j : S2x64x256x1408.Idx => out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) j
    = Spec.out (tokS m c (flat (j 0) (j 1) (j 2))) (j 3)) (fun q n r k => ?_) j
  rw [o12, tokR_eq]
  rfl

theorem ridx13 : ∀ t : Fin cfg0.N, win0_13.index t = ![0, 0, 0, 0] := (by decide +kernel : ∀ t : Fin grid0.N, _)
set_option maxHeartbeats 2000000 in
/-- Result 2. -/
theorem final13 (c : Dev nD) : (dats m 0 c).arrAt 13 (cfgs 0).N
    = fun i : S2x64x256x1408.Idx => Spec.q1 (tokS m c (flat (i 0) (i 1) (i 2))) (i 3) := by
  refine (dats m 0 c).arrAt_eq_of_after_last 13 t0_0 (by decide +kernel) _ fun j => ?_
  blk_simp
  rw [after0_13]
  refine at4 (fun j : S2x64x256x1408.Idx => out0_13 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) j
    = Spec.q1 (tokS m c (flat (j 0) (j 1) (j 2))) (j 3)) (fun q n r k => ?_) j
  rw [o13, tokR_eq]
  rfl

theorem ridx14 : ∀ t : Fin cfg0.N, win0_14.index t = ![0, 0, 0, 0] := (by decide +kernel : ∀ t : Fin grid0.N, _)
set_option maxHeartbeats 2000000 in
/-- Result 3. -/
theorem final14 (c : Dev nD) : (dats m 0 c).arrAt 14 (cfgs 0).N
    = fun i : S2x64x256x44.Idx => Spec.sc1 (tokS m c (flat (i 0) (i 1) (i 2))) (i 3) := by
  refine (dats m 0 c).arrAt_eq_of_after_last 14 t0_0 (by decide +kernel) _ fun j => ?_
  blk_simp
  rw [after0_14]
  refine at4 (fun j : S2x64x256x44.Idx => out0_14 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) j
    = Spec.sc1 (tokS m c (flat (j 0) (j 1) (j 2))) (j 3)) (fun q n r k => ?_) j
  rw [o14, tokR_eq]
  rfl

theorem ridx15 : ∀ t : Fin cfg0.N, win0_15.index t = ![0, 0, 0, 0] := (by decide +kernel : ∀ t : Fin grid0.N, _)
set_option maxHeartbeats 2000000 in
/-- Result 4. -/
theorem final15 (c : Dev nD) : (dats m 0 c).arrAt 15 (cfgs 0).N
    = fun i : S2x64x256x5632.Idx => Spec.q2 (tokS m c (flat (i 0) (i 1) (i 2))) (i 3) := by
  refine (dats m 0 c).arrAt_eq_of_after_last 15 t0_0 (by decide +kernel) _ fun j => ?_
  blk_simp
  rw [after0_15]
  refine at4 (fun j : S2x64x256x5632.Idx => out0_15 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) j
    = Spec.q2 (tokS m c (flat (j 0) (j 1) (j 2))) (j 3)) (fun q n r k => ?_) j
  rw [o15, tokR_eq]
  rfl

theorem ridx16 : ∀ t : Fin cfg0.N, win0_16.index t = ![0, 0, 0, 0] := (by decide +kernel : ∀ t : Fin grid0.N, _)
set_option maxHeartbeats 2000000 in
/-- Result 5. -/
theorem final16 (c : Dev nD) : (dats m 0 c).arrAt 16 (cfgs 0).N
    = fun i : S2x64x256x176.Idx => Spec.sc2 (tokS m c (flat (i 0) (i 1) (i 2))) (i 3) := by
  refine (dats m 0 c).arrAt_eq_of_after_last 16 t0_0 (by decide +kernel) _ fun j => ?_
  blk_simp
  rw [after0_16]
  refine at4 (fun j : S2x64x256x176.Idx => out0_16 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) j
    = Spec.sc2 (tokS m c (flat (j 0) (j 1) (j 2))) (j 3)) (fun q n r k => ?_) j
  rw [o16, tokR_eq]
  rfl
end Cert.ReferenceIdeal.V
-- ==== Proof.Runs.lean ====
/-
  THE TWO RUNS: each program's five results, from any memory, as the tokens' mathematics, with the arguments unchanged.
-/
module
public import proofs.«01_k».proof.Proof.RTok

@[expose] public section

set_option maxRecDepth 16384
noncomputable section

namespace Cert.KernelIdeal.V
open Cert.KernelIdeal Cert.KernelIdeal.Gen
open Idealize.ShloMosaic Idealize.ShloMosaic.TcCoe Idealize.SL.Sem
variable (m : (ℓ : Loc nD τ sig) → Buf (Elt Ideal) ℓ) (ρ : Dev nD → PrngReg)
/-- The kernel's run. -/
theorem run_value : θ_run defs (onTc (τ := τ) (main (F := Ideal))) ⟨m, fun _ => 0, ρ⟩ (fun r => ∀ c : Dev nD,
      r.2.mem ((c.tc : Thread nD τ).loc main_v26_0) = (fun i : S2x64x256x1408.Idx => Spec.out (tokM m c (flat (i 0) (i 1) (i 2))) (i 3))
      ∧ r.2.mem ((c.tc : Thread nD τ).loc main_v26_1) = (fun i : S2x64x256x1408.Idx => Spec.q1 (tokM m c (flat (i 0) (i 1) (i 2))) (i 3))
      ∧ r.2.mem ((c.tc : Thread nD τ).loc main_v26_2) = (fun i : S2x64x256x44.Idx => Spec.sc1 (tokM m c (flat (i 0) (i 1) (i 2))) (i 3))
      ∧ r.2.mem ((c.tc : Thread nD τ).loc main_v26_3) = (fun i : S2x64x256x5632.Idx => Spec.q2 (tokM m c (flat (i 0) (i 1) (i 2))) (i 3))
      ∧ r.2.mem ((c.tc : Thread nD τ).loc main_v26_4) = (fun i : S2x64x256x176.Idx => Spec.sc2 (tokM m c (flat (i 0) (i 1) (i 2))) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  θ_run_mono (θ_run_and (run_main m ρ) (unchanged m ρ)) fun r h c =>
    ⟨((h.1 c).1 7).trans (final7 m c), ((h.1 c).1 8).trans (final8 m c), ((h.1 c).1 9).trans (final9 m c), ((h.1 c).1 10).trans (final10 m c), ((h.1 c).1 11).trans (final11 m c), h.2 c⟩

end Cert.KernelIdeal.V

namespace Cert.ReferenceIdeal.V
open Cert.ReferenceIdeal Cert.ReferenceIdeal.Gen
open Cert.KernelIdeal.V (flat)
open Idealize.ShloMosaic Idealize.ShloMosaic.TcCoe Idealize.SL.Sem
variable (m : (ℓ : Loc nD τ sig) → Buf (Elt Ideal) ℓ) (ρ : Dev nD → PrngReg)
/-- The reference's run. -/
theorem run_value : θ_run defs (onTc (τ := τ) (main (F := Ideal))) ⟨m, fun _ => 0, ρ⟩ (fun r => ∀ c : Dev nD,
      r.2.mem ((c.tc : Thread nD τ).loc main_v12_0) = (fun i : S2x64x256x1408.Idx => Spec.out (tokS m c (flat (i 0) (i 1) (i 2))) (i 3))
      ∧ r.2.mem ((c.tc : Thread nD τ).loc main_v12_1) = (fun i : S2x64x256x1408.Idx => Spec.q1 (tokS m c (flat (i 0) (i 1) (i 2))) (i 3))
      ∧ r.2.mem ((c.tc : Thread nD τ).loc main_v12_2) = (fun i : S2x64x256x44.Idx => Spec.sc1 (tokS m c (flat (i 0) (i 1) (i 2))) (i 3))
      ∧ r.2.mem ((c.tc : Thread nD τ).loc main_v12_3) = (fun i : S2x64x256x5632.Idx => Spec.q2 (tokS m c (flat (i 0) (i 1) (i 2))) (i 3))
      ∧ r.2.mem ((c.tc : Thread nD τ).loc main_v12_4) = (fun i : S2x64x256x176.Idx => Spec.sc2 (tokS m c (flat (i 0) (i 1) (i 2))) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  θ_run_mono (θ_run_and (run_main m ρ) (unchanged m ρ)) fun r h c =>
    ⟨((h.1 c).1 12).trans (final12 m c), ((h.1 c).1 13).trans (final13 m c), ((h.1 c).1 14).trans (final14 m c), ((h.1 c).1 15).trans (final15 m c), ((h.1 c).1 16).trans (final16 m c), h.2 c⟩

end Cert.ReferenceIdeal.V
-- ==== Proof.BRuns.lean ====
/-
  THE FRAME OF THE KERNEL IN FLOATS, part 1: the claim about the argument arrays read off a run whose outputs are left
  unnamed, and the memrefs the body is run on.
-/
module

public import proofs.«01_k».proof.Proof.Runs
public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.B

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- THE FRAME from a frame run: for any proof data whose arrays are the region-entry contents (`hA`), a run to
    the library's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S176x2x16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x256x1408 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5632x1408 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1408x5632 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1408x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x5632x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x1x1408 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1x256x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x1x256x1408 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x1x256x44 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x1x256x5632 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1x256x176 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1408x512 .bf16 := Memref.whole cc0_scratch0
abbrev scM0_1 : Memref sig .tc .vmem S5632x512 .bf16 := Memref.whole cc0_scratch1
abbrev scM0_2 : Memref sig .tc .vmem S11x4x512 .f32 := Memref.whole cc0_scratch2
abbrev scM0_3 : Memref sig .tc .vmem S11x16x512 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.B

end
-- ==== Proof.BRunA.lean ====
/-
  THE FRAME OF THE KERNEL IN FLOATS, part 2: the body runs on any whole staging memrefs, leaves its inputs as they
  were, and leaves something in each output and scratch buffer.
-/
module

public import proofs.«01_k».proof.Proof.BRuns

@[expose] public section

-- membership in a rectangle of production extents (`View.cover_of_tiled`): the elaborator's structural look
-- recurses once per coordinate of the long axes
set_option maxRecDepth 16384

noncomputable section

namespace Cert.Kernel.B

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (7, 8, 9, 10, 11) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S176x2x16x128 .f32) (harg1 : arg1.IsWhole) (arg2 : Memref sig .tc .vmem S2x1x256x1408 .bf16) (harg2 : arg2.IsWhole) (arg3 : Memref sig .tc .vmem S5632x1408 .fp8e4m3) (harg3 : arg3.IsWhole) (arg4 : Memref sig .tc .vmem S1408x5632 .fp8e4m3) (harg4 : arg4.IsWhole) (arg5 : Memref sig .tc .vmem S3x1408x128 .f32) (harg5 : arg5.IsWhole) (arg6 : Memref sig .tc .vmem S2x5632x128 .f32) (harg6 : arg6.IsWhole) (arg7 : Memref sig .tc .vmem S3x1x1408 .f32) (harg7 : arg7.IsWhole) (arg8 : Memref sig .tc .vmem S2x1x256x1408 .bf16) (harg8 : arg8.IsWhole) (arg9 : Memref sig .tc .vmem S2x1x256x1408 .fp8e4m3) (harg9 : arg9.IsWhole) (arg10 : Memref sig .tc .vmem S2x1x256x44 .f32) (harg10 : arg10.IsWhole) (arg11 : Memref sig .tc .vmem S2x1x256x5632 .fp8e4m3) (harg11 : arg11.IsWhole) (arg12 : Memref sig .tc .vmem S2x1x256x176 .f32) (harg12 : arg12.IsWhole) (arg13 : Memref sig .tc .vmem S1408x512 .bf16) (harg13 : arg13.IsWhole) (arg14 : Memref sig .tc .vmem S5632x512 .bf16) (harg14 : arg14.IsWhole) (arg15 : Memref sig .tc .vmem S11x4x512 .f32) (harg15 : arg15.IsWhole) (arg16 : Memref sig .tc .vmem S11x16x512 .f32) (harg16 : arg16.IsWhole)
    (x0 : Vec F S176x2x16x128 .f32) (x1 : Vec F S2x1x256x1408 .bf16) (x2 : Vec F S5632x1408 .fp8e4m3) (x3 : Vec F S1408x5632 .fp8e4m3) (x4 : Vec F S3x1408x128 .f32) (x5 : Vec F S2x5632x128 .f32) (x6 : Vec F S3x1x1408 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mlp_eq_skeleton]; unfold cc0_mlp_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.B

end
-- ==== Proof.BFrame.lean ====
/-
  THE FRAME OF THE KERNEL IN FLOATS, part 3: the launch ends with every argument array as it began and every
  semaphore at zero.
-/
module

public import proofs.«01_k».proof.Proof.BRunA
public import Idealize.ShloMosaic.Lib.Claim

@[expose] public section

-- membership in a rectangle of production extents (`View.cover_of_tiled`): the elaborator's structural look
-- recurses once per coordinate of the long axes
set_option maxRecDepth 16384

noncomputable section

namespace Cert.Kernel.B

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (7, 8, 9, 10, 11): nothing reads what the kernel leaves in them, so nothing
    of it is named (Lib/Pipeline/Dat.lean `Dat.toRForget`). -/
def forgets0 : Fin 12 → Bool := fun w => w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets0) (A_eq m) (run_main m ρ)

/-- THE FRAME: `Cert.quiescent_Kernel`'s statement (Defs.lean) at any `F` (Proof.lean cites it at `Bits`). -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.B

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Runs
public import proofs.«01_k».proof.Proof.BFrame
public import Idealize.ShloMosaic.Adequacy
public import Idealize.ShloMosaic.Init

@[expose] public section

noncomputable section

namespace Cert.Proof

open Idealize.ShloMosaic Idealize.SL.Sem Cert.Kernel

/-- Equal arguments are equal tokens. -/
theorem tok_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
     ) :
    Cert.ReferenceIdeal.V.tokS m' c = Cert.KernelIdeal.V.tokM m c := by
  obtain ⟨h0, h1, h2, h3, h4, h5, h6, h7, h8, h9, h10, h11⟩ := h
  funext T
  unfold Cert.ReferenceIdeal.V.tokS Cert.KernelIdeal.V.tokM
  rw [h0, h1, h2, h3, h4, h5, h6, h7, h8, h9, h10, h11]

/-- The value claim: both programs leave the same five results. -/
theorem algebraic : algebraic_KernelIdeal_ReferenceIdeal (hKernelIdeal := Cert.KernelIdeal.Gen.facts)
    (hReferenceIdeal := Cert.ReferenceIdeal.Gen.facts) := by
  intro m g m' g' _ hm
  refine ⟨_, _, _, _, _, Cert.KernelIdeal.V.run_value m g, θ_run_mono (Cert.ReferenceIdeal.V.run_value m' g') fun r h c => ?_⟩
  obtain ⟨e0, e1, e2, e3, e4, ea⟩ := h c
  rw [tok_same m m' c (hm c)] at e0 e1 e2 e3 e4
  exact ⟨e0, e1, e2, e3, e4, ea⟩

theorem claim : Cert.Claim := ⟨Cert.Kernel.Gen.facts, Cert.KernelIdeal.Gen.facts, Cert.ReferenceIdeal.Gen.facts,
  fun m ρ _ => Cert.Kernel.B.frame m ρ, fun m ρ _ => Cert.KernelIdeal.V.frame m ρ,
  fun m ρ _ => Cert.ReferenceIdeal.Gen.frame m ρ, trivial, algebraic⟩

end Cert.Proof

end
